-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_2)) (v2 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_2) = v1 c
          ∧ r.2.mem ((c.tc : Thread Cert.KernelIdeal.nD Cert.KernelIdeal.τ).loc Cert.KernelIdeal.main_v8_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_v181) = v1 c
          ∧ r.2.mem ((c.tc : Thread Cert.ReferenceIdeal.nD Cert.ReferenceIdeal.τ).loc Cert.ReferenceIdeal.main_v159) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x768 : Shape := ⟨2, ![4096, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256x512 : Shape := ⟨2, ![256, 512]⟩
abbrev S512x768 : Shape := ⟨2, ![512, 768]⟩
abbrev S768 : Shape := ⟨1, ![768]⟩
abbrev S4x256x64 : Shape := ⟨3, ![4, 256, 64]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S768x512 : S_.BroadcastsInDim S768x512 (![] : Fin 0 → Fin S768x512.rank)
  reducesTo_S768x512_S_d0_1 : S768x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S4x256x64 : S_.BroadcastsInDim S4x256x64 (![] : Fin 0 → Fin S4x256x64.rank)
  reducesTo_S4x256x64_S_d0_1_2 : S4x256x64.ReducesTo [0, 1, 2] S_

variable [Facts]

def fn_part2 {F : FTy → Type} [FloatOps F] (main_arg7 : FVec F S128x64 .f32) (main_arg8 : FVec F S64 .f32) (main_arg17 : FVec F S4x256x64 .f32) (main_v29 : IVec S_ 1) (main_v32 : IVec S128 1) (main_c_12 : IVec S_ 1) : IVec S_ 1 :=
  let main_v33 : IVec S_ 1 := (fun x v => Host.reduce IntOp.andi x v reducesTo_S128_S_d0 h_S_) main_v32 main_c_12
  let main_v34 : IVec S_ 1 := andi main_v29 main_v33
  let main_v35 : FVec F S128x64 .f32 := Host.absf main_arg7
  let main_cst_13 : FVec F S_ .f32 := constant S_ .f32 0x7F800000#32
  let main_v36 : FVec F S128x64 .f32 := broadcastInDim S128x64 ![] bcast_S_S128x64 main_cst_13
  let main_v37 : IVec S128x64 1 := cmpf .olt main_v35 main_v36
  let main_c_14 : IVec S_ 1 := constantI S_ 1 1#1
  let main_v38 : IVec S_ 1 := (fun x v => Host.reduce IntOp.andi x v reducesTo_S128x64_S_d0_1 h_S_) main_v37 main_c_14
  let main_v39 : IVec S_ 1 := andi main_v34 main_v38
  let main_v40 : FVec F S64 .f32 := Host.absf main_arg8
  let main_cst_15 : FVec F S_ .f32 := constant S_ .f32 0x7F800000#32
  let main_v41 : FVec F S64 .f32 := broadcastInDim S64 ![] bcast_S_S64 main_cst_15
  let main_v42 : IVec S64 1 := cmpf .olt main_v40 main_v41
  let main_c_16 : IVec S_ 1 := constantI S_ 1 1#1
  let main_v43 : IVec S_ 1 := (fun x v => Host.reduce IntOp.andi x v reducesTo_S64_S_d0 h_S_) main_v42 main_c_16
  let main_v44 : IVec S_ 1 := andi main_v39 main_v43
  let main_v45 : FVec F S4x256x64 .f32 := Host.absf main_arg17
  let main_cst_17 : FVec F S_ .f32 := constant S_ .f32 0x7F800000#32
  let main_v46 : FVec F S4x256x64 .f32 := broadcastInDim S4x256x64 ![] bcast_S_S4x256x64 main_cst_17
  let main_v47 : IVec S4x256x64 1 := cmpf .olt main_v45 main_v46
  let main_c_18 : IVec S_ 1 := constantI S_ 1 1#1
  let main_v48 : IVec S_ 1 := (fun x v => Host.reduce IntOp.andi x v reducesTo_S4x256x64_S_d0_1_2 h_S_) main_v47 main_c_18
  let main_v49 : IVec S_ 1 := andi main_v44 main_v48
  main_v49

def fn_part1 {F : FTy → Type} [FloatOps F] (main_arg4 : FVec F S256 .f32) (main_arg5 : FVec F S256x128 .f32) (main_arg6 : FVec F S128 .f32) (main_arg7 : FVec F S128x64 .f32) (main_arg8 : FVec F S64 .f32) (main_arg17 : FVec F S4x256x64 .f32) (main_v14 : IVec S_ 1) (main_v15 : FVec F S512x256 .f32) (main_cst_5 : FVec F S_ .f32) : IVec S_ 1 :=
  let main_v16 : FVec F S512x256 .f32 := broadcastInDim S512x256 ![] bcast_S_S512x256 main_cst_5
  let main_v17 : IVec S512x256 1 := cmpf .olt main_v15 main_v16
  let main_c_6 : IVec S_ 1 := constantI S_ 1 1#1
  let main_v18 : IVec S_ 1 := (fun x v => Host.reduce IntOp.andi x v reducesTo_S512x256_S_d0_1 h_S_) main_v17 main_c_6
  let main_v19 : IVec S_ 1 := andi main_v14 main_v18
  let main_v20 : FVec F S256 .f32 := Host.absf main_arg4
  let main_cst_7 : FVec F S_ .f32 := constant S_ .f32 0x7F800000#32
  let main_v21 : FVec F S256 .f32 := broadcastInDim S256 ![] bcast_S_S256 main_cst_7
  let main_v22 : IVec S256 1 := cmpf .olt main_v20 main_v21
  let main_c_8 : IVec S_ 1 := constantI S_ 1 1#1
  let main_v23 : IVec S_ 1 := (fun x v => Host.reduce IntOp.andi x v reducesTo_S256_S_d0 h_S_) main_v22 main_c_8
  let main_v24 : IVec S_ 1 := andi main_v19 main_v23
  let main_v25 : FVec F S256x128 .f32 := Host.absf main_arg5
  let main_cst_9 : FVec F S_ .f32 := constant S_ .f32 0x7F800000#32
  let main_v26 : FVec F S256x128 .f32 := broadcastInDim S256x128 ![] bcast_S_S256x128 main_cst_9
  let main_v27 : IVec S256x128 1 := cmpf .olt main_v25 main_v26
  let main_c_10 : IVec S_ 1 := constantI S_ 1 1#1
  let main_v28 : IVec S_ 1 := (fun x v => Host.reduce IntOp.andi x v reducesTo_S256x128_S_d0_1 h_S_) main_v27 main_c_10
  let main_v29 : IVec S_ 1 := andi main_v24 main_v28
  let main_v30 : FVec F S128 .f32 := Host.absf main_arg6
  let main_cst_11 : FVec F S_ .f32 := constant S_ .f32 0x7F800000#32
  let main_v31 : FVec F S128 .f32 := broadcastInDim S128 ![] bcast_S_S128 main_cst_11
  let main_v32 : IVec S128 1 := cmpf .olt main_v30 main_v31
  let main_c_12 : IVec S_ 1 := constantI S_ 1 1#1
  fn_part2 (F := F) main_arg7 main_arg8 main_arg17 main_v29 main_v32 main_c_12

def fn {F : FTy → Type} [FloatOps F] (main_arg0 : FVec F S4096x768 .f32) (main_arg1 : FVec F S768x512 .f32) (main_arg2 : FVec F S512 .f32) (main_arg3 : FVec F S512x256 .f32) (main_arg4 : FVec F S256 .f32) (main_arg5 : FVec F S256x128 .f32) (main_arg6 : FVec F S128 .f32) (main_arg7 : FVec F S128x64 .f32) (main_arg8 : FVec F S64 .f32) (main_arg9 : FVec F S64x128 .f32) (main_arg10 : FVec F S128 .f32) (main_arg11 : FVec F S128x256 .f32) (main_arg12 : FVec F S256 .f32) (main_arg13 : FVec F S256x512 .f32) (main_arg14 : FVec F S512 .f32) (main_arg15 : FVec F S512x768 .f32) (main_arg16 : FVec F S768 .f32) (main_arg17 : FVec F S4x256x64 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_c_0 : IVec S_ 1 := constantI S_ 1 1#1
  let main_v4 : IVec S_ 1 := andi main_c_0 main_v3
  let main_v5 : FVec F S768x512 .f32 := Host.absf main_arg1
  let main_cst_1 : FVec F S_ .f32 := constant S_ .f32 0x7F800000#32
  let main_v6 : FVec F S768x512 .f32 := broadcastInDim S768x512 ![] bcast_S_S768x512 main_cst_1
  let main_v7 : IVec S768x512 1 := cmpf .olt main_v5 main_v6
  let main_c_2 : IVec S_ 1 := constantI S_ 1 1#1
  let main_v8 : IVec S_ 1 := (fun x v => Host.reduce IntOp.andi x v reducesTo_S768x512_S_d0_1 h_S_) main_v7 main_c_2
  let main_v9 : IVec S_ 1 := andi main_v4 main_v8
  let main_v10 : FVec F S512 .f32 := Host.absf main_arg2
  let main_cst_3 : FVec F S_ .f32 := constant S_ .f32 0x7F800000#32
  let main_v11 : FVec F S512 .f32 := broadcastInDim S512 ![] bcast_S_S512 main_cst_3
  let main_v12 : IVec S512 1 := cmpf .olt main_v10 main_v11
  let main_c_4 : IVec S_ 1 := constantI S_ 1 1#1
  let main_v13 : IVec S_ 1 := (fun x v => Host.reduce IntOp.andi x v reducesTo_S512_S_d0 h_S_) main_v12 main_c_4
  let main_v14 : IVec S_ 1 := andi main_v9 main_v13
  let main_v15 : FVec F S512x256 .f32 := Host.absf main_arg3
  let main_cst_5 : FVec F S_ .f32 := constant S_ .f32 0x7F800000#32
  fn_part1 (F := F) main_arg4 main_arg5 main_arg6 main_arg7 main_arg8 main_arg17 main_v14 main_v15 main_cst_5
-- ==== Kernel.lean ====
abbrev S4096x768 : Shape := ⟨2, ![4096, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256x512 : Shape := ⟨2, ![256, 512]⟩
abbrev S512x768 : Shape := ⟨2, ![512, 768]⟩
abbrev S768 : Shape := ⟨1, ![768]⟩
abbrev S4x256x64 : Shape := ⟨3, ![4, 256, 64]⟩
abbrev S1x512 : Shape := ⟨2, ![1, 512]⟩
abbrev S1x256 : Shape := ⟨2, ![1, 256]⟩
abbrev S1x128 : Shape := ⟨2, ![1, 128]⟩
abbrev S1x64 : Shape := ⟨2, ![1, 64]⟩
abbrev S1x768 : Shape := ⟨2, ![1, 768]⟩
abbrev S4096x4 : Shape := ⟨2, ![4096, 4]⟩
abbrev S1x1 : Shape := ⟨2, ![1, 1]⟩
abbrev S2048x768 : Shape := ⟨2, ![2048, 768]⟩
abbrev S2048x4 : Shape := ⟨2, ![2048, 4]⟩
abbrev S2048x512 : Shape := ⟨2, ![2048, 512]⟩
abbrev S2048x256 : Shape := ⟨2, ![2048, 256]⟩
abbrev S2048x128 : Shape := ⟨2, ![2048, 128]⟩
abbrev S2048x64 : Shape := ⟨2, ![2048, 64]⟩
abbrev S512x64 : Shape := ⟨2, ![512, 64]⟩
abbrev S1x256x64 : Shape := ⟨3, ![1, 256, 64]⟩
abbrev S256x64 : Shape := ⟨2, ![256, 64]⟩
abbrev S512x1 : Shape := ⟨2, ![512, 1]⟩
abbrev S1x512x64 : Shape := ⟨3, ![1, 512, 64]⟩
abbrev S1 : Shape := ⟨1, ![1]⟩
abbrev S1x1x1 : Shape := ⟨3, ![1, 1, 1]⟩
abbrev S512x4 : Shape := ⟨2, ![512, 4]⟩

abbrev nBuf : Space → Nat
  | .hbm => 29
  | .vmem => 23
  | .smem => 1
  | _ => 0

abbrev bufTy : (tb : Table) → Fin (tcTables nBuf tb) → BufTy
  | .hbm, ⟨0, _⟩ => ⟨S4096x768, .f32⟩
  | .hbm, ⟨1, _⟩ => ⟨S768x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S128x256, .f32⟩
  | .hbm, ⟨12, _⟩ => ⟨S256, .f32⟩
  | .hbm, ⟨13, _⟩ => ⟨S256x512, .f32⟩
  | .hbm, ⟨14, _⟩ => ⟨S512, .f32⟩
  | .hbm, ⟨15, _⟩ => ⟨S512x768, .f32⟩
  | .hbm, ⟨16, _⟩ => ⟨S768, .f32⟩
  | .hbm, ⟨17, _⟩ => ⟨S4x256x64, .f32⟩
  | .hbm, ⟨18, _⟩ => ⟨S1x512, .f32⟩
  | .hbm, ⟨19, _⟩ => ⟨S1x256, .f32⟩
  | .hbm, ⟨20, _⟩ => ⟨S1x128, .f32⟩
  | .hbm, ⟨21, _⟩ => ⟨S1x64, .f32⟩
  | .hbm, ⟨22, _⟩ => ⟨S1x128, .f32⟩
  | .hbm, ⟨23, _⟩ => ⟨S1x256, .f32⟩
  | .hbm, ⟨24, _⟩ => ⟨S1x512, .f32⟩
  | .hbm, ⟨25, _⟩ => ⟨S1x768, .f32⟩
  | .hbm, ⟨26, _⟩ => ⟨S4096x768, .f32⟩
  | .hbm, ⟨27, _⟩ => ⟨S4096x4, .i32⟩
  | .hbm, ⟨28, _⟩ => ⟨S1x1, .f32⟩
  | .local _ .vmem, ⟨0, _⟩ => ⟨S2048x768, .f32⟩
  | .local _ .vmem, ⟨1, _⟩ => ⟨S2048x768, .f32⟩
  | .local _ .vmem, ⟨2, _⟩ => ⟨S768x512, .f32⟩
  | .local _ .vmem, ⟨3, _⟩ => ⟨S1x512, .f32⟩
  | .local _ .vmem, ⟨4, _⟩ => ⟨S512x256, .f32⟩
  | .local _ .vmem, ⟨5, _⟩ => ⟨S1x256, .f32⟩
  | .local _ .vmem, ⟨6, _⟩ => ⟨S256x128, .f32⟩
  | .local _ .vmem, ⟨7, _⟩ => ⟨S1x128, .f32⟩
  | .local _ .vmem, ⟨8, _⟩ => ⟨S128x64, .f32⟩
  | .local _ .vmem, ⟨9, _⟩ => ⟨S1x64, .f32⟩
  | .local _ .vmem, ⟨10, _⟩ => ⟨S64x128, .f32⟩
  | .local _ .vmem, ⟨11, _⟩ => ⟨S1x128, .f32⟩
  | .local _ .vmem, ⟨12, _⟩ => ⟨S128x256, .f32⟩
  | .local _ .vmem, ⟨13, _⟩ => ⟨S1x256, .f32⟩
  | .local _ .vmem, ⟨14, _⟩ => ⟨S256x512, .f32⟩
  | .local _ .vmem, ⟨15, _⟩ => ⟨S1x512, .f32⟩
  | .local _ .vmem, ⟨16, _⟩ => ⟨S512x768, .f32⟩
  | .local _ .vmem, ⟨17, _⟩ => ⟨S1x768, .f32⟩
  | .local _ .vmem, ⟨18, _⟩ => ⟨S4x256x64, .f32⟩
  | .local _ .vmem, ⟨19, _⟩ => ⟨S2048x768, .f32⟩
  | .local _ .vmem, ⟨20, _⟩ => ⟨S2048x768, .f32⟩
  | .local _ .vmem, ⟨21, _⟩ => ⟨S2048x4, .i32⟩
  | .local _ .vmem, ⟨22, _⟩ => ⟨S2048x4, .i32⟩
  | .local _ .smem, ⟨0, _⟩ => ⟨S1x1, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8_0 : Ref sig .tc := ⟨.hbm, 26, rfl⟩
abbrev main_v8_1 : Ref sig .tc := ⟨.hbm, 27, rfl⟩
abbrev main_v8_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg18_1 : Ref sig .tc := ⟨.vmem, 20, rfl⟩
abbrev cc0_stg19_0 : Ref sig .tc := ⟨.vmem, 21, rfl⟩
abbrev cc0_stg19_1 : Ref sig .tc := ⟨.vmem, 22, rfl⟩
abbrev cc0_stg20_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem18_1 : DmaSem sig := 20
abbrev cc0_sem19_0 : DmaSem sig := 21
abbrev cc0_sem19_1 : DmaSem sig := 22
abbrev cc0_sem20_0 : DmaSem sig := 23

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x256x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S2048x768 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2048x4 .i32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .smem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferenceIdeal.lean ====
abbrev S4096x768 : Shape := ⟨2, ![4096, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256x512 : Shape := ⟨2, ![256, 512]⟩
abbrev S512x768 : Shape := ⟨2, ![512, 768]⟩
abbrev S768 : Shape := ⟨1, ![768]⟩
abbrev S4x256x64 : Shape := ⟨3, ![4, 256, 64]⟩
abbrev S4096x512 : Shape := ⟨2, ![4096, 512]⟩
abbrev S1x512 : Shape := ⟨2, ![1, 512]⟩
abbrev S_ : Shape := ⟨0, ![]⟩
abbrev S4096x256 : Shape := ⟨2, ![4096, 256]⟩
abbrev S1x256 : Shape := ⟨2, ![1, 256]⟩
abbrev S4096x128 : Shape := ⟨2, ![4096, 128]⟩
abbrev S1x128 : Shape := ⟨2, ![1, 128]⟩
abbrev S4096x64 : Shape := ⟨2, ![4096, 64]⟩
abbrev S1x64 : Shape := ⟨2, ![1, 64]⟩
abbrev S1x256x64 : Shape := ⟨3, ![1, 256, 64]⟩
abbrev S256x64 : Shape := ⟨2, ![256, 64]⟩
abbrev S4096 : Shape := ⟨1, ![4096]⟩
abbrev S4096x1 : Shape := ⟨2, ![4096, 1]⟩
abbrev S64x256 : Shape := ⟨2, ![64, 256]⟩
abbrev S1 : Shape := ⟨1, ![1]⟩
abbrev S1x1 : Shape := ⟨2, ![1, 1]⟩
abbrev S4 : Shape := ⟨1, ![4]⟩
abbrev S4096x4 : Shape := ⟨2, ![4096, 4]⟩
abbrev S1x768 : Shape := ⟨2, ![1, 768]⟩

abbrev nBuf : Space → Nat
  | .hbm => 359
  | .vmem => 0
  | .smem => 0
  | _ => 0

abbrev hbmTy0_0 (i : Nat) : BufTy := match i % 128 with
  | 0 => ⟨S4096x768, .f32⟩
  | 1 => ⟨S768x512, .f32⟩
  | 2 => ⟨S512, .f32⟩
  | 3 => ⟨S512x256, .f32⟩
  | 4 => ⟨S256, .f32⟩
  | 5 => ⟨S256x128, .f32⟩
  | 6 => ⟨S128, .f32⟩
  | 7 => ⟨S128x64, .f32⟩
  | 8 => ⟨S64, .f32⟩
  | 9 => ⟨S64x128, .f32⟩
  | 10 => ⟨S128, .f32⟩
  | 11 => ⟨S128x256, .f32⟩
  | 12 => ⟨S256, .f32⟩
  | 13 => ⟨S256x512, .f32⟩
  | 14 => ⟨S512, .f32⟩
  | 15 => ⟨S512x768, .f32⟩
  | 16 => ⟨S768, .f32⟩
  | 17 => ⟨S4x256x64, .f32⟩
  | 18 => ⟨S4096x512, .f32⟩
  | 19 => ⟨S1x512, .f32⟩
  | 20 => ⟨S4096x512, .f32⟩
  | 21 => ⟨S4096x512, .f32⟩
  | 22 => ⟨S_, .f32⟩
  | 23 => ⟨S4096x512, .f32⟩
  | 24 => ⟨S4096x512, .f32⟩
  | 25 => ⟨S4096x256, .f32⟩
  | 26 => ⟨S1x256, .f32⟩
  | 27 => ⟨S4096x256, .f32⟩
  | 28 => ⟨S4096x256, .f32⟩
  | 29 => ⟨S_, .f32⟩
  | 30 => ⟨S4096x256, .f32⟩
  | 31 => ⟨S4096x256, .f32⟩
  | 32 => ⟨S4096x128, .f32⟩
  | 33 => ⟨S1x128, .f32⟩
  | 34 => ⟨S4096x128, .f32⟩
  | 35 => ⟨S4096x128, .f32⟩
  | 36 => ⟨S_, .f32⟩
  | 37 => ⟨S4096x128, .f32⟩
  | 38 => ⟨S4096x128, .f32⟩
  | 39 => ⟨S4096x64, .f32⟩
  | 40 => ⟨S1x64, .f32⟩
  | 41 => ⟨S4096x64, .f32⟩
  | 42 => ⟨S4096x64, .f32⟩
  | 43 => ⟨S_, .f32⟩
  | 44 => ⟨S4096x64, .f32⟩
  | 45 => ⟨S1x256x64, .f32⟩
  | 46 => ⟨S256x64, .f32⟩
  | 47 => ⟨S4096x64, .f32⟩
  | 48 => ⟨S_, .f32⟩
  | 49 => ⟨S4096, .f32⟩
  | 50 => ⟨S4096x1, .f32⟩
  | 51 => ⟨S64x256, .f32⟩
  | 52 => ⟨S4096x256, .f32⟩
  | 53 => ⟨S_, .f32⟩
  | 54 => ⟨S4096x256, .f32⟩
  | 55 => ⟨S4096x256, .f32⟩
  | 56 => ⟨S4096x256, .f32⟩
  | 57 => ⟨S4096x256, .f32⟩
  | 58 => ⟨S256x64, .f32⟩
  | 59 => ⟨S_, .f32⟩
  | 60 => ⟨S256, .f32⟩
  | 61 => ⟨S1x256, .f32⟩
  | 62 => ⟨S4096x256, .f32⟩
  | 63 => ⟨S4096x256, .f32⟩
  | 64 => ⟨S4096x256, .i32⟩
  | 65 => ⟨S_, .f32⟩
  | 66 => ⟨S_, .i32⟩
  | 67 => ⟨S4096, .f32⟩
  | 68 => ⟨S4096, .i32⟩
  | 69 => ⟨S_, .i32⟩
  | 70 => ⟨S4096, .i32⟩
  | 71 => ⟨S4096, .i1⟩
  | 72 => ⟨S_, .i32⟩
  | 73 => ⟨S4096, .i32⟩
  | 74 => ⟨S4096, .i32⟩
  | 75 => ⟨S4096, .i32⟩
  | 76 => ⟨S4096x1, .i32⟩
  | 77 => ⟨S1, .i32⟩
  | 78 => ⟨S_, .i32⟩
  | 79 => ⟨S4096x1, .i32⟩
  | 80 => ⟨S4096x1, .i1⟩
  | 81 => ⟨S1x1, .i32⟩
  | 82 => ⟨S4096x1, .i32⟩
  | 83 => ⟨S4096x1, .i1⟩
  | 84 => ⟨S4096x1, .i1⟩
  | 85 => ⟨S_, .i1⟩
  | 86 => ⟨S4096, .i1⟩
  | 87 => ⟨S4096x64, .f32⟩
  | 88 => ⟨S4096x64, .i1⟩
  | 89 => ⟨S_, .f32⟩
  | 90 => ⟨S4096x64, .f32⟩
  | 91 => ⟨S4096x64, .f32⟩
  | 92 => ⟨S4096x64, .f32⟩
  | 93 => ⟨S4096x64, .f32⟩
  | 94 => ⟨S_, .f32⟩
  | 95 => ⟨S4096, .f32⟩
  | 96 => ⟨S_, .f32⟩
  | 97 => ⟨S_, .f32⟩
  | 98 => ⟨S_, .f32⟩
  | 99 => ⟨S_, .f32⟩
  | 100 => ⟨S4096x64, .f32⟩
  | 101 => ⟨S4096x64, .f32⟩
  | 102 => ⟨S_, .f32⟩
  | 103 => ⟨S4096, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S4096x64, .f32⟩
  | 112 => ⟨S4096x64, .f32⟩
  | 113 => ⟨S1x256x64, .f32⟩
  | 114 => ⟨S256x64, .f32⟩
  | 115 => ⟨S4096x64, .f32⟩
  | 116 => ⟨S_, .f32⟩
  | 117 => ⟨S4096, .f32⟩
  | 118 => ⟨S4096x1, .f32⟩
  | 119 => ⟨S64x256, .f32⟩
  | 120 => ⟨S4096x256, .f32⟩
  | 121 => ⟨S_, .f32⟩
  | 122 => ⟨S4096x256, .f32⟩
  | 123 => ⟨S4096x256, .f32⟩
  | 124 => ⟨S4096x256, .f32⟩
  | 125 => ⟨S4096x256, .f32⟩
  | 126 => ⟨S256x64, .f32⟩
  | 127 => ⟨S_, .f32⟩
  | _ => ⟨S4096x768, .f32⟩

abbrev hbmTy0_1 (i : Nat) : BufTy := match i % 128 with
  | 0 => ⟨S256, .f32⟩
  | 1 => ⟨S1x256, .f32⟩
  | 2 => ⟨S4096x256, .f32⟩
  | 3 => ⟨S4096x256, .f32⟩
  | 4 => ⟨S4096x256, .i32⟩
  | 5 => ⟨S_, .f32⟩
  | 6 => ⟨S_, .i32⟩
  | 7 => ⟨S4096, .f32⟩
  | 8 => ⟨S4096, .i32⟩
  | 9 => ⟨S_, .i32⟩
  | 10 => ⟨S4096, .i32⟩
  | 11 => ⟨S4096, .i1⟩
  | 12 => ⟨S_, .i32⟩
  | 13 => ⟨S4096, .i32⟩
  | 14 => ⟨S4096, .i32⟩
  | 15 => ⟨S4096, .i32⟩
  | 16 => ⟨S4096x1, .i32⟩
  | 17 => ⟨S1, .i32⟩
  | 18 => ⟨S_, .i32⟩
  | 19 => ⟨S4096x1, .i32⟩
  | 20 => ⟨S4096x1, .i1⟩
  | 21 => ⟨S1x1, .i32⟩
  | 22 => ⟨S4096x1, .i32⟩
  | 23 => ⟨S4096x1, .i1⟩
  | 24 => ⟨S4096x1, .i1⟩
  | 25 => ⟨S_, .i1⟩
  | 26 => ⟨S4096, .i1⟩
  | 27 => ⟨S4096x64, .f32⟩
  | 28 => ⟨S4096x64, .i1⟩
  | 29 => ⟨S_, .f32⟩
  | 30 => ⟨S4096x64, .f32⟩
  | 31 => ⟨S4096x64, .f32⟩
  | 32 => ⟨S4096x64, .f32⟩
  | 33 => ⟨S4096x64, .f32⟩
  | 34 => ⟨S_, .f32⟩
  | 35 => ⟨S4096, .f32⟩
  | 36 => ⟨S_, .f32⟩
  | 37 => ⟨S_, .f32⟩
  | 38 => ⟨S_, .f32⟩
  | 39 => ⟨S_, .f32⟩
  | 40 => ⟨S4096x64, .f32⟩
  | 41 => ⟨S4096x64, .f32⟩
  | 42 => ⟨S_, .f32⟩
  | 43 => ⟨S4096, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S4096x64, .f32⟩
  | 52 => ⟨S4096x64, .f32⟩
  | 53 => ⟨S1x256x64, .f32⟩
  | 54 => ⟨S256x64, .f32⟩
  | 55 => ⟨S4096x64, .f32⟩
  | 56 => ⟨S_, .f32⟩
  | 57 => ⟨S4096, .f32⟩
  | 58 => ⟨S4096x1, .f32⟩
  | 59 => ⟨S64x256, .f32⟩
  | 60 => ⟨S4096x256, .f32⟩
  | 61 => ⟨S_, .f32⟩
  | 62 => ⟨S4096x256, .f32⟩
  | 63 => ⟨S4096x256, .f32⟩
  | 64 => ⟨S4096x256, .f32⟩
  | 65 => ⟨S4096x256, .f32⟩
  | 66 => ⟨S256x64, .f32⟩
  | 67 => ⟨S_, .f32⟩
  | 68 => ⟨S256, .f32⟩
  | 69 => ⟨S1x256, .f32⟩
  | 70 => ⟨S4096x256, .f32⟩
  | 71 => ⟨S4096x256, .f32⟩
  | 72 => ⟨S4096x256, .i32⟩
  | 73 => ⟨S_, .f32⟩
  | 74 => ⟨S_, .i32⟩
  | 75 => ⟨S4096, .f32⟩
  | 76 => ⟨S4096, .i32⟩
  | 77 => ⟨S_, .i32⟩
  | 78 => ⟨S4096, .i32⟩
  | 79 => ⟨S4096, .i1⟩
  | 80 => ⟨S_, .i32⟩
  | 81 => ⟨S4096, .i32⟩
  | 82 => ⟨S4096, .i32⟩
  | 83 => ⟨S4096, .i32⟩
  | 84 => ⟨S4096x1, .i32⟩
  | 85 => ⟨S1, .i32⟩
  | 86 => ⟨S_, .i32⟩
  | 87 => ⟨S4096x1, .i32⟩
  | 88 => ⟨S4096x1, .i1⟩
  | 89 => ⟨S1x1, .i32⟩
  | 90 => ⟨S4096x1, .i32⟩
  | 91 => ⟨S4096x1, .i1⟩
  | 92 => ⟨S4096x1, .i1⟩
  | 93 => ⟨S_, .i1⟩
  | 94 => ⟨S4096, .i1⟩
  | 95 => ⟨S4096x64, .f32⟩
  | 96 => ⟨S4096x64, .i1⟩
  | 97 => ⟨S_, .f32⟩
  | 98 => ⟨S4096x64, .f32⟩
  | 99 => ⟨S4096x64, .f32⟩
  | 100 => ⟨S4096x64, .f32⟩
  | 101 => ⟨S4096x64, .f32⟩
  | 102 => ⟨S_, .f32⟩
  | 103 => ⟨S4096, .f32⟩
  | 104 => ⟨S_, .f32⟩
  | 105 => ⟨S_, .f32⟩
  | 106 => ⟨S_, .f32⟩
  | 107 => ⟨S_, .f32⟩
  | 108 => ⟨S4096x64, .f32⟩
  | 109 => ⟨S4096x64, .f32⟩
  | 110 => ⟨S_, .f32⟩
  | 111 => ⟨S4096, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S4096x64, .f32⟩
  | 120 => ⟨S4096x64, .f32⟩
  | 121 => ⟨S1x256x64, .f32⟩
  | 122 => ⟨S256x64, .f32⟩
  | 123 => ⟨S4096x64, .f32⟩
  | 124 => ⟨S_, .f32⟩
  | 125 => ⟨S4096, .f32⟩
  | 126 => ⟨S4096x1, .f32⟩
  | 127 => ⟨S64x256, .f32⟩
  | _ => ⟨S4096x768, .f32⟩

abbrev hbmTy0_2 (i : Nat) : BufTy := match i % 128 with
  | 0 => ⟨S4096x256, .f32⟩
  | 1 => ⟨S_, .f32⟩
  | 2 => ⟨S4096x256, .f32⟩
  | 3 => ⟨S4096x256, .f32⟩
  | 4 => ⟨S4096x256, .f32⟩
  | 5 => ⟨S4096x256, .f32⟩
  | 6 => ⟨S256x64, .f32⟩
  | 7 => ⟨S_, .f32⟩
  | 8 => ⟨S256, .f32⟩
  | 9 => ⟨S1x256, .f32⟩
  | 10 => ⟨S4096x256, .f32⟩
  | 11 => ⟨S4096x256, .f32⟩
  | 12 => ⟨S4096x256, .i32⟩
  | 13 => ⟨S_, .f32⟩
  | 14 => ⟨S_, .i32⟩
  | 15 => ⟨S4096, .f32⟩
  | 16 => ⟨S4096, .i32⟩
  | 17 => ⟨S_, .i32⟩
  | 18 => ⟨S4096, .i32⟩
  | 19 => ⟨S4096, .i1⟩
  | 20 => ⟨S_, .i32⟩
  | 21 => ⟨S4096, .i32⟩
  | 22 => ⟨S4096, .i32⟩
  | 23 => ⟨S4096, .i32⟩
  | 24 => ⟨S4096x1, .i32⟩
  | 25 => ⟨S1, .i32⟩
  | 26 => ⟨S_, .i32⟩
  | 27 => ⟨S4096x1, .i32⟩
  | 28 => ⟨S4096x1, .i1⟩
  | 29 => ⟨S1x1, .i32⟩
  | 30 => ⟨S4096x1, .i32⟩
  | 31 => ⟨S4096x1, .i1⟩
  | 32 => ⟨S4096x1, .i1⟩
  | 33 => ⟨S_, .i1⟩
  | 34 => ⟨S4096, .i1⟩
  | 35 => ⟨S4096x64, .f32⟩
  | 36 => ⟨S4096x64, .i1⟩
  | 37 => ⟨S_, .f32⟩
  | 38 => ⟨S4096x64, .f32⟩
  | 39 => ⟨S4096x64, .f32⟩
  | 40 => ⟨S4096x64, .f32⟩
  | 41 => ⟨S4096x64, .f32⟩
  | 42 => ⟨S_, .f32⟩
  | 43 => ⟨S4096, .f32⟩
  | 44 => ⟨S_, .f32⟩
  | 45 => ⟨S_, .f32⟩
  | 46 => ⟨S_, .f32⟩
  | 47 => ⟨S_, .f32⟩
  | 48 => ⟨S4096x64, .f32⟩
  | 49 => ⟨S4096x64, .f32⟩
  | 50 => ⟨S_, .f32⟩
  | 51 => ⟨S4096, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S4096x64, .f32⟩
  | 60 => ⟨S4096x64, .f32⟩
  | 61 => ⟨S1, .f32⟩
  | 62 => ⟨S1, .f32⟩
  | 63 => ⟨S1, .f32⟩
  | 64 => ⟨S1, .f32⟩
  | 65 => ⟨S4, .f32⟩
  | 66 => ⟨S_, .f32⟩
  | 67 => ⟨S_, .f32⟩
  | 68 => ⟨S_, .f32⟩
  | 69 => ⟨S_, .f32⟩
  | 70 => ⟨S4096x1, .i32⟩
  | 71 => ⟨S4096x1, .i32⟩
  | 72 => ⟨S4096x1, .i32⟩
  | 73 => ⟨S4096x1, .i32⟩
  | 74 => ⟨S4096x4, .i32⟩
  | 75 => ⟨S4096x64, .f32⟩
  | 76 => ⟨S4096x64, .f32⟩
  | 77 => ⟨S4096x128, .f32⟩
  | 78 => ⟨S1x128, .f32⟩
  | 79 => ⟨S4096x128, .f32⟩
  | 80 => ⟨S4096x128, .f32⟩
  | 81 => ⟨S_, .f32⟩
  | 82 => ⟨S4096x128, .f32⟩
  | 83 => ⟨S4096x128, .f32⟩
  | 84 => ⟨S4096x256, .f32⟩
  | 85 => ⟨S1x256, .f32⟩
  | 86 => ⟨S4096x256, .f32⟩
  | 87 => ⟨S4096x256, .f32⟩
  | 88 => ⟨S_, .f32⟩
  | 89 => ⟨S4096x256, .f32⟩
  | 90 => ⟨S4096x256, .f32⟩
  | 91 => ⟨S4096x512, .f32⟩
  | 92 => ⟨S1x512, .f32⟩
  | 93 => ⟨S4096x512, .f32⟩
  | 94 => ⟨S4096x512, .f32⟩
  | 95 => ⟨S_, .f32⟩
  | 96 => ⟨S4096x512, .f32⟩
  | 97 => ⟨S4096x512, .f32⟩
  | 98 => ⟨S4096x768, .f32⟩
  | 99 => ⟨S1x768, .f32⟩
  | 100 => ⟨S4096x768, .f32⟩
  | 101 => ⟨S4096x768, .f32⟩
  | 102 => ⟨S1x1, .f32⟩
  | _ => ⟨S4096x768, .f32⟩

abbrev hbmTy (i : Nat) : BufTy := match i / 128 with
  | 0 => hbmTy0_0 i
  | 1 => hbmTy0_1 i
  | 2 => hbmTy0_2 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_cst : Ref sig .tc := ⟨.hbm, 29, rfl⟩
abbrev main_call1_v0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_call2_cst : Ref sig .tc := ⟨.hbm, 36, rfl⟩
abbrev main_call2_v0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_1 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_2 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_call3_v0 : Ref sig .tc := ⟨.hbm, 64, rfl⟩
abbrev main_call3_cst : Ref sig .tc := ⟨.hbm, 65, rfl⟩
abbrev main_call3_c : Ref sig .tc := ⟨.hbm, 66, rfl⟩
abbrev main_call3_v1_0 : Ref sig .tc := ⟨.hbm, 67, rfl⟩
abbrev main_v36 : Ref sig .tc := ⟨.hbm, 68, rfl⟩
abbrev main_call4_c : Ref sig .tc := ⟨.hbm, 69, rfl⟩
abbrev main_call4_v0 : Ref sig .tc := ⟨.hbm, 70, rfl⟩
abbrev main_call4_v1 : Ref sig .tc := ⟨.hbm, 71, rfl⟩
abbrev main_call4_c_0 : Ref sig .tc := ⟨.hbm, 72, rfl⟩
abbrev main_call4_v2 : Ref sig .tc := ⟨.hbm, 73, rfl⟩
abbrev main_call4_v3 : Ref sig .tc := ⟨.hbm, 74, rfl⟩
abbrev main_call4_v4 : Ref sig .tc := ⟨.hbm, 75, rfl⟩
abbrev main_call4_v5 : Ref sig .tc := ⟨.hbm, 76, rfl⟩
abbrev main_call4_c_1 : Ref sig .tc := ⟨.hbm, 77, rfl⟩
abbrev main_call4_c_2 : Ref sig .tc := ⟨.hbm, 78, rfl⟩
abbrev main_call4_v6 : Ref sig .tc := ⟨.hbm, 79, rfl⟩
abbrev main_call4_v7 : Ref sig .tc := ⟨.hbm, 80, rfl⟩
abbrev main_call4_v8 : Ref sig .tc := ⟨.hbm, 81, rfl⟩
abbrev main_call4_v9 : Ref sig .tc := ⟨.hbm, 82, rfl⟩
abbrev main_call4_v10 : Ref sig .tc := ⟨.hbm, 83, rfl⟩
abbrev main_call4_v11 : Ref sig .tc := ⟨.hbm, 84, rfl⟩
abbrev main_call4_c_3 : Ref sig .tc := ⟨.hbm, 85, rfl⟩
abbrev main_call4_v12 : Ref sig .tc := ⟨.hbm, 86, rfl⟩
abbrev main_call4_v13 : Ref sig .tc := ⟨.hbm, 87, rfl⟩
abbrev main_call4_v14 : Ref sig .tc := ⟨.hbm, 88, rfl⟩
abbrev main_call4_cst : Ref sig .tc := ⟨.hbm, 89, rfl⟩
abbrev main_call4_v15 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_cst_3 : Ref sig .tc := ⟨.hbm, 94, rfl⟩
abbrev main_v40 : Ref sig .tc := ⟨.hbm, 95, rfl⟩
abbrev main_cst_4 : Ref sig .tc := ⟨.hbm, 96, rfl⟩
abbrev main_v41 : Ref sig .tc := ⟨.hbm, 97, rfl⟩
abbrev main_cst_5 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_cst_6 : Ref sig .tc := ⟨.hbm, 102, rfl⟩
abbrev main_v45 : Ref sig .tc := ⟨.hbm, 103, rfl⟩
abbrev main_cst_7 : Ref sig .tc := ⟨.hbm, 104, rfl⟩
abbrev main_v46 : Ref sig .tc := ⟨.hbm, 105, rfl⟩
abbrev main_cst_8 : Ref sig .tc := ⟨.hbm, 106, rfl⟩
abbrev main_v47 : Ref sig .tc := ⟨.hbm, 107, rfl⟩
abbrev main_cst_9 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_cst_10 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_11 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_cst_12 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_call5_v0 : Ref sig .tc := ⟨.hbm, 132, rfl⟩
abbrev main_call5_cst : Ref sig .tc := ⟨.hbm, 133, rfl⟩
abbrev main_call5_c : Ref sig .tc := ⟨.hbm, 134, rfl⟩
abbrev main_call5_v1_0 : Ref sig .tc := ⟨.hbm, 135, rfl⟩
abbrev main_v68 : Ref sig .tc := ⟨.hbm, 136, rfl⟩
abbrev main_call6_c : Ref sig .tc := ⟨.hbm, 137, rfl⟩
abbrev main_call6_v0 : Ref sig .tc := ⟨.hbm, 138, rfl⟩
abbrev main_call6_v1 : Ref sig .tc := ⟨.hbm, 139, rfl⟩
abbrev main_call6_c_0 : Ref sig .tc := ⟨.hbm, 140, rfl⟩
abbrev main_call6_v2 : Ref sig .tc := ⟨.hbm, 141, rfl⟩
abbrev main_call6_v3 : Ref sig .tc := ⟨.hbm, 142, rfl⟩
abbrev main_call6_v4 : Ref sig .tc := ⟨.hbm, 143, rfl⟩
abbrev main_call6_v5 : Ref sig .tc := ⟨.hbm, 144, rfl⟩
abbrev main_call6_c_1 : Ref sig .tc := ⟨.hbm, 145, rfl⟩
abbrev main_call6_c_2 : Ref sig .tc := ⟨.hbm, 146, rfl⟩
abbrev main_call6_v6 : Ref sig .tc := ⟨.hbm, 147, rfl⟩
abbrev main_call6_v7 : Ref sig .tc := ⟨.hbm, 148, rfl⟩
abbrev main_call6_v8 : Ref sig .tc := ⟨.hbm, 149, rfl⟩
abbrev main_call6_v9 : Ref sig .tc := ⟨.hbm, 150, rfl⟩
abbrev main_call6_v10 : Ref sig .tc := ⟨.hbm, 151, rfl⟩
abbrev main_call6_v11 : Ref sig .tc := ⟨.hbm, 152, rfl⟩
abbrev main_call6_c_3 : Ref sig .tc := ⟨.hbm, 153, rfl⟩
abbrev main_call6_v12 : Ref sig .tc := ⟨.hbm, 154, rfl⟩
abbrev main_call6_v13 : Ref sig .tc := ⟨.hbm, 155, rfl⟩
abbrev main_call6_v14 : Ref sig .tc := ⟨.hbm, 156, rfl⟩
abbrev main_call6_cst : Ref sig .tc := ⟨.hbm, 157, rfl⟩
abbrev main_call6_v15 : Ref sig .tc := ⟨.hbm, 158, rfl⟩
abbrev main_v69 : Ref sig .tc := ⟨.hbm, 159, rfl⟩
abbrev main_v70 : Ref sig .tc := ⟨.hbm, 160, rfl⟩
abbrev main_v71 : Ref sig .tc := ⟨.hbm, 161, rfl⟩
abbrev main_cst_13 : Ref sig .tc := ⟨.hbm, 162, rfl⟩
abbrev main_v72 : Ref sig .tc := ⟨.hbm, 163, rfl⟩
abbrev main_cst_14 : Ref sig .tc := ⟨.hbm, 164, rfl⟩
abbrev main_v73 : Ref sig .tc := ⟨.hbm, 165, rfl⟩
abbrev main_cst_15 : Ref sig .tc := ⟨.hbm, 166, rfl⟩
abbrev main_v74 : Ref sig .tc := ⟨.hbm, 167, rfl⟩
abbrev main_v75 : Ref sig .tc := ⟨.hbm, 168, rfl⟩
abbrev main_v76 : Ref sig .tc := ⟨.hbm, 169, rfl⟩
abbrev main_cst_16 : Ref sig .tc := ⟨.hbm, 170, rfl⟩
abbrev main_v77 : Ref sig .tc := ⟨.hbm, 171, rfl⟩
abbrev main_cst_17 : Ref sig .tc := ⟨.hbm, 172, rfl⟩
abbrev main_v78 : Ref sig .tc := ⟨.hbm, 173, rfl⟩
abbrev main_cst_18 : Ref sig .tc := ⟨.hbm, 174, rfl⟩
abbrev main_v79 : Ref sig .tc := ⟨.hbm, 175, rfl⟩
abbrev main_cst_19 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_v84 : Ref sig .tc := ⟨.hbm, 181, rfl⟩
abbrev main_v85 : Ref sig .tc := ⟨.hbm, 182, rfl⟩
abbrev main_v86 : Ref sig .tc := ⟨.hbm, 183, rfl⟩
abbrev main_cst_20 : Ref sig .tc := ⟨.hbm, 184, rfl⟩
abbrev main_v87 : Ref sig .tc := ⟨.hbm, 185, rfl⟩
abbrev main_v88 : Ref sig .tc := ⟨.hbm, 186, rfl⟩
abbrev main_v89 : Ref sig .tc := ⟨.hbm, 187, rfl⟩
abbrev main_v90 : Ref sig .tc := ⟨.hbm, 188, rfl⟩
abbrev main_cst_21 : Ref sig .tc := ⟨.hbm, 189, rfl⟩
abbrev main_v91 : Ref sig .tc := ⟨.hbm, 190, rfl⟩
abbrev main_v92 : Ref sig .tc := ⟨.hbm, 191, rfl⟩
abbrev main_v93 : Ref sig .tc := ⟨.hbm, 192, rfl⟩
abbrev main_v94 : Ref sig .tc := ⟨.hbm, 193, rfl⟩
abbrev main_v95 : Ref sig .tc := ⟨.hbm, 194, rfl⟩
abbrev main_cst_22 : Ref sig .tc := ⟨.hbm, 195, rfl⟩
abbrev main_v96 : Ref sig .tc := ⟨.hbm, 196, rfl⟩
abbrev main_v97 : Ref sig .tc := ⟨.hbm, 197, rfl⟩
abbrev main_v98 : Ref sig .tc := ⟨.hbm, 198, rfl⟩
abbrev main_v99 : Ref sig .tc := ⟨.hbm, 199, rfl⟩
abbrev main_call7_v0 : Ref sig .tc := ⟨.hbm, 200, rfl⟩
abbrev main_call7_cst : Ref sig .tc := ⟨.hbm, 201, rfl⟩
abbrev main_call7_c : Ref sig .tc := ⟨.hbm, 202, rfl⟩
abbrev main_call7_v1_0 : Ref sig .tc := ⟨.hbm, 203, rfl⟩
abbrev main_v100 : Ref sig .tc := ⟨.hbm, 204, rfl⟩
abbrev main_call8_c : Ref sig .tc := ⟨.hbm, 205, rfl⟩
abbrev main_call8_v0 : Ref sig .tc := ⟨.hbm, 206, rfl⟩
abbrev main_call8_v1 : Ref sig .tc := ⟨.hbm, 207, rfl⟩
abbrev main_call8_c_0 : Ref sig .tc := ⟨.hbm, 208, rfl⟩
abbrev main_call8_v2 : Ref sig .tc := ⟨.hbm, 209, rfl⟩
abbrev main_call8_v3 : Ref sig .tc := ⟨.hbm, 210, rfl⟩
abbrev main_call8_v4 : Ref sig .tc := ⟨.hbm, 211, rfl⟩
abbrev main_call8_v5 : Ref sig .tc := ⟨.hbm, 212, rfl⟩
abbrev main_call8_c_1 : Ref sig .tc := ⟨.hbm, 213, rfl⟩
abbrev main_call8_c_2 : Ref sig .tc := ⟨.hbm, 214, rfl⟩
abbrev main_call8_v6 : Ref sig .tc := ⟨.hbm, 215, rfl⟩
abbrev main_call8_v7 : Ref sig .tc := ⟨.hbm, 216, rfl⟩
abbrev main_call8_v8 : Ref sig .tc := ⟨.hbm, 217, rfl⟩
abbrev main_call8_v9 : Ref sig .tc := ⟨.hbm, 218, rfl⟩
abbrev main_call8_v10 : Ref sig .tc := ⟨.hbm, 219, rfl⟩
abbrev main_call8_v11 : Ref sig .tc := ⟨.hbm, 220, rfl⟩
abbrev main_call8_c_3 : Ref sig .tc := ⟨.hbm, 221, rfl⟩
abbrev main_call8_v12 : Ref sig .tc := ⟨.hbm, 222, rfl⟩
abbrev main_call8_v13 : Ref sig .tc := ⟨.hbm, 223, rfl⟩
abbrev main_call8_v14 : Ref sig .tc := ⟨.hbm, 224, rfl⟩
abbrev main_call8_cst : Ref sig .tc := ⟨.hbm, 225, rfl⟩
abbrev main_call8_v15 : Ref sig .tc := ⟨.hbm, 226, rfl⟩
abbrev main_v101 : Ref sig .tc := ⟨.hbm, 227, rfl⟩
abbrev main_v102 : Ref sig .tc := ⟨.hbm, 228, rfl⟩
abbrev main_v103 : Ref sig .tc := ⟨.hbm, 229, rfl⟩
abbrev main_cst_23 : Ref sig .tc := ⟨.hbm, 230, rfl⟩
abbrev main_v104 : Ref sig .tc := ⟨.hbm, 231, rfl⟩
abbrev main_cst_24 : Ref sig .tc := ⟨.hbm, 232, rfl⟩
abbrev main_v105 : Ref sig .tc := ⟨.hbm, 233, rfl⟩
abbrev main_cst_25 : Ref sig .tc := ⟨.hbm, 234, rfl⟩
abbrev main_v106 : Ref sig .tc := ⟨.hbm, 235, rfl⟩
abbrev main_v107 : Ref sig .tc := ⟨.hbm, 236, rfl⟩
abbrev main_v108 : Ref sig .tc := ⟨.hbm, 237, rfl⟩
abbrev main_cst_26 : Ref sig .tc := ⟨.hbm, 238, rfl⟩
abbrev main_v109 : Ref sig .tc := ⟨.hbm, 239, rfl⟩
abbrev main_cst_27 : Ref sig .tc := ⟨.hbm, 240, rfl⟩
abbrev main_v110 : Ref sig .tc := ⟨.hbm, 241, rfl⟩
abbrev main_cst_28 : Ref sig .tc := ⟨.hbm, 242, rfl⟩
abbrev main_v111 : Ref sig .tc := ⟨.hbm, 243, rfl⟩
abbrev main_cst_29 : Ref sig .tc := ⟨.hbm, 244, rfl⟩
abbrev main_v112 : Ref sig .tc := ⟨.hbm, 245, rfl⟩
abbrev main_v113 : Ref sig .tc := ⟨.hbm, 246, rfl⟩
abbrev main_v114 : Ref sig .tc := ⟨.hbm, 247, rfl⟩
abbrev main_v115 : Ref sig .tc := ⟨.hbm, 248, rfl⟩
abbrev main_v116 : Ref sig .tc := ⟨.hbm, 249, rfl⟩
abbrev main_v117 : Ref sig .tc := ⟨.hbm, 250, rfl⟩
abbrev main_v118 : Ref sig .tc := ⟨.hbm, 251, rfl⟩
abbrev main_cst_30 : Ref sig .tc := ⟨.hbm, 252, rfl⟩
abbrev main_v119 : Ref sig .tc := ⟨.hbm, 253, rfl⟩
abbrev main_v120 : Ref sig .tc := ⟨.hbm, 254, rfl⟩
abbrev main_v121 : Ref sig .tc := ⟨.hbm, 255, rfl⟩
abbrev main_v122 : Ref sig .tc := ⟨.hbm, 256, rfl⟩
abbrev main_cst_31 : Ref sig .tc := ⟨.hbm, 257, rfl⟩
abbrev main_v123 : Ref sig .tc := ⟨.hbm, 258, rfl⟩
abbrev main_v124 : Ref sig .tc := ⟨.hbm, 259, rfl⟩
abbrev main_v125 : Ref sig .tc := ⟨.hbm, 260, rfl⟩
abbrev main_v126 : Ref sig .tc := ⟨.hbm, 261, rfl⟩
abbrev main_v127 : Ref sig .tc := ⟨.hbm, 262, rfl⟩
abbrev main_cst_32 : Ref sig .tc := ⟨.hbm, 263, rfl⟩
abbrev main_v128 : Ref sig .tc := ⟨.hbm, 264, rfl⟩
abbrev main_v129 : Ref sig .tc := ⟨.hbm, 265, rfl⟩
abbrev main_v130 : Ref sig .tc := ⟨.hbm, 266, rfl⟩
abbrev main_v131 : Ref sig .tc := ⟨.hbm, 267, rfl⟩
abbrev main_call9_v0 : Ref sig .tc := ⟨.hbm, 268, rfl⟩
abbrev main_call9_cst : Ref sig .tc := ⟨.hbm, 269, rfl⟩
abbrev main_call9_c : Ref sig .tc := ⟨.hbm, 270, rfl⟩
abbrev main_call9_v1_0 : Ref sig .tc := ⟨.hbm, 271, rfl⟩
abbrev main_v132 : Ref sig .tc := ⟨.hbm, 272, rfl⟩
abbrev main_call10_c : Ref sig .tc := ⟨.hbm, 273, rfl⟩
abbrev main_call10_v0 : Ref sig .tc := ⟨.hbm, 274, rfl⟩
abbrev main_call10_v1 : Ref sig .tc := ⟨.hbm, 275, rfl⟩
abbrev main_call10_c_0 : Ref sig .tc := ⟨.hbm, 276, rfl⟩
abbrev main_call10_v2 : Ref sig .tc := ⟨.hbm, 277, rfl⟩
abbrev main_call10_v3 : Ref sig .tc := ⟨.hbm, 278, rfl⟩
abbrev main_call10_v4 : Ref sig .tc := ⟨.hbm, 279, rfl⟩
abbrev main_call10_v5 : Ref sig .tc := ⟨.hbm, 280, rfl⟩
abbrev main_call10_c_1 : Ref sig .tc := ⟨.hbm, 281, rfl⟩
abbrev main_call10_c_2 : Ref sig .tc := ⟨.hbm, 282, rfl⟩
abbrev main_call10_v6 : Ref sig .tc := ⟨.hbm, 283, rfl⟩
abbrev main_call10_v7 : Ref sig .tc := ⟨.hbm, 284, rfl⟩
abbrev main_call10_v8 : Ref sig .tc := ⟨.hbm, 285, rfl⟩
abbrev main_call10_v9 : Ref sig .tc := ⟨.hbm, 286, rfl⟩
abbrev main_call10_v10 : Ref sig .tc := ⟨.hbm, 287, rfl⟩
abbrev main_call10_v11 : Ref sig .tc := ⟨.hbm, 288, rfl⟩
abbrev main_call10_c_3 : Ref sig .tc := ⟨.hbm, 289, rfl⟩
abbrev main_call10_v12 : Ref sig .tc := ⟨.hbm, 290, rfl⟩
abbrev main_call10_v13 : Ref sig .tc := ⟨.hbm, 291, rfl⟩
abbrev main_call10_v14 : Ref sig .tc := ⟨.hbm, 292, rfl⟩
abbrev main_call10_cst : Ref sig .tc := ⟨.hbm, 293, rfl⟩
abbrev main_call10_v15 : Ref sig .tc := ⟨.hbm, 294, rfl⟩
abbrev main_v133 : Ref sig .tc := ⟨.hbm, 295, rfl⟩
abbrev main_v134 : Ref sig .tc := ⟨.hbm, 296, rfl⟩
abbrev main_v135 : Ref sig .tc := ⟨.hbm, 297, rfl⟩
abbrev main_cst_33 : Ref sig .tc := ⟨.hbm, 298, rfl⟩
abbrev main_v136 : Ref sig .tc := ⟨.hbm, 299, rfl⟩
abbrev main_cst_34 : Ref sig .tc := ⟨.hbm, 300, rfl⟩
abbrev main_v137 : Ref sig .tc := ⟨.hbm, 301, rfl⟩
abbrev main_cst_35 : Ref sig .tc := ⟨.hbm, 302, rfl⟩
abbrev main_v138 : Ref sig .tc := ⟨.hbm, 303, rfl⟩
abbrev main_v139 : Ref sig .tc := ⟨.hbm, 304, rfl⟩
abbrev main_v140 : Ref sig .tc := ⟨.hbm, 305, rfl⟩
abbrev main_cst_36 : Ref sig .tc := ⟨.hbm, 306, rfl⟩
abbrev main_v141 : Ref sig .tc := ⟨.hbm, 307, rfl⟩
abbrev main_cst_37 : Ref sig .tc := ⟨.hbm, 308, rfl⟩
abbrev main_v142 : Ref sig .tc := ⟨.hbm, 309, rfl⟩
abbrev main_cst_38 : Ref sig .tc := ⟨.hbm, 310, rfl⟩
abbrev main_v143 : Ref sig .tc := ⟨.hbm, 311, rfl⟩
abbrev main_cst_39 : Ref sig .tc := ⟨.hbm, 312, rfl⟩
abbrev main_v144 : Ref sig .tc := ⟨.hbm, 313, rfl⟩
abbrev main_v145 : Ref sig .tc := ⟨.hbm, 314, rfl⟩
abbrev main_v146 : Ref sig .tc := ⟨.hbm, 315, rfl⟩
abbrev main_v147 : Ref sig .tc := ⟨.hbm, 316, rfl⟩
abbrev main_v148 : Ref sig .tc := ⟨.hbm, 317, rfl⟩
abbrev main_v149 : Ref sig .tc := ⟨.hbm, 318, rfl⟩
abbrev main_v150 : Ref sig .tc := ⟨.hbm, 319, rfl⟩
abbrev main_v151 : Ref sig .tc := ⟨.hbm, 320, rfl⟩
abbrev main_v152 : Ref sig .tc := ⟨.hbm, 321, rfl⟩
abbrev main_cst_40 : Ref sig .tc := ⟨.hbm, 322, rfl⟩
abbrev main_v153 : Ref sig .tc := ⟨.hbm, 323, rfl⟩
abbrev main_cst_41 : Ref sig .tc := ⟨.hbm, 324, rfl⟩
abbrev main_v154 : Ref sig .tc := ⟨.hbm, 325, rfl⟩
abbrev main_v155 : Ref sig .tc := ⟨.hbm, 326, rfl⟩
abbrev main_v156 : Ref sig .tc := ⟨.hbm, 327, rfl⟩
abbrev main_v157 : Ref sig .tc := ⟨.hbm, 328, rfl⟩
abbrev main_v158 : Ref sig .tc := ⟨.hbm, 329, rfl⟩
abbrev main_v159 : Ref sig .tc := ⟨.hbm, 330, rfl⟩
abbrev main_v160 : Ref sig .tc := ⟨.hbm, 331, rfl⟩
abbrev main_v161 : Ref sig .tc := ⟨.hbm, 332, rfl⟩
abbrev main_v162 : Ref sig .tc := ⟨.hbm, 333, rfl⟩
abbrev main_v163 : Ref sig .tc := ⟨.hbm, 334, rfl⟩
abbrev main_v164 : Ref sig .tc := ⟨.hbm, 335, rfl⟩
abbrev main_v165 : Ref sig .tc := ⟨.hbm, 336, rfl⟩
abbrev main_call11_cst : Ref sig .tc := ⟨.hbm, 337, rfl⟩
abbrev main_call11_v0 : Ref sig .tc := ⟨.hbm, 338, rfl⟩
abbrev main_v166 : Ref sig .tc := ⟨.hbm, 339, rfl⟩
abbrev main_v167 : Ref sig .tc := ⟨.hbm, 340, rfl⟩
abbrev main_v168 : Ref sig .tc := ⟨.hbm, 341, rfl⟩
abbrev main_v169 : Ref sig .tc := ⟨.hbm, 342, rfl⟩
abbrev main_v170 : Ref sig .tc := ⟨.hbm, 343, rfl⟩
abbrev main_call12_cst : Ref sig .tc := ⟨.hbm, 344, rfl⟩
abbrev main_call12_v0 : Ref sig .tc := ⟨.hbm, 345, rfl⟩
abbrev main_v171 : Ref sig .tc := ⟨.hbm, 346, rfl⟩
abbrev main_v172 : Ref sig .tc := ⟨.hbm, 347, rfl⟩
abbrev main_v173 : Ref sig .tc := ⟨.hbm, 348, rfl⟩
abbrev main_v174 : Ref sig .tc := ⟨.hbm, 349, rfl⟩
abbrev main_v175 : Ref sig .tc := ⟨.hbm, 350, rfl⟩
abbrev main_call13_cst : Ref sig .tc := ⟨.hbm, 351, rfl⟩
abbrev main_call13_v0 : Ref sig .tc := ⟨.hbm, 352, rfl⟩
abbrev main_v176 : Ref sig .tc := ⟨.hbm, 353, rfl⟩
abbrev main_v177 : Ref sig .tc := ⟨.hbm, 354, rfl⟩
abbrev main_v178 : Ref sig .tc := ⟨.hbm, 355, rfl⟩
abbrev main_v179 : Ref sig .tc := ⟨.hbm, 356, rfl⟩
abbrev main_v180 : Ref sig .tc := ⟨.hbm, 357, rfl⟩
abbrev main_v181 : Ref sig .tc := ⟨.hbm, 358, rfl⟩

abbrev nD : Nat := 1
abbrev τ : Topo := Topo.v7x

variable {F : FTy → Type} [FloatOps F]
-- ==== Proof.Ref.Ops.lean ====
/- The reference's host operations as four lists, one per printed window of its main program, read off the program
   itself, and the run of the whole program as the fold of those operations over the launch contents. -/
module

public import proofs.«01_k».proof.Proof.Gen.ReferenceIdeal
public import Idealize.ShloMosaic.Lib.StableHlo.RunHlo
public import Idealize.ShloMosaic.Lib.StableHlo.RunRead

@[expose] public section

set_option maxRecDepth 65536

noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F]

omit [FloatOps F] in
/-- A program that is one operation and then returns is the line of that operation alone. -/
theorem isSeq_last (op : HloOp τ sig (Elt F)) :
    IsSeq (nD := nD) (Λ := Pipeline.Sig Λ₀ (Fin 0) fun p => (pcfgs (F := F) p).Adm)
      (hlo rfl op fun _ => .ret (⟨⟩ : PUnit)) [op] := rfl

/-- Window 1 of the reference's main program as the list of its operations. -/
def win0 : {ops : List (HloOp τ sig (Elt F)) // ∀ c, IsSeq (main_part0 (F := F) c) ops} := by
  apply Subtype.mk
  · intro c
    simp only [main_part0, fn_relu.body, fn_relu_0.body, fn_relu_1.body, fn_argmin.body, fn_take.body, fn_where.body, bind_assoc, pure_bind]
    repeat (first | exact IsSeq.nil | exact isSeq_last _ | apply IsSeq.cons)

/-- Window 2 of the reference's main program as the list of its operations. -/
def win1 : {ops : List (HloOp τ sig (Elt F)) // ∀ c, IsSeq (main_part1 (F := F) c) ops} := by
  apply Subtype.mk
  · intro c
    simp only [main_part1, fn_argmin.body, fn_take.body, fn_where.body, bind_assoc, pure_bind]
    repeat (first | exact IsSeq.nil | exact isSeq_last _ | apply IsSeq.cons)

/-- Window 3 of the reference's main program as the list of its operations. -/
def win2 : {ops : List (HloOp τ sig (Elt F)) // ∀ c, IsSeq (main_part2 (F := F) c) ops} := by
  apply Subtype.mk
  · intro c
    simp only [main_part2, fn_argmin.body, fn_take.body, fn_where.body, bind_assoc, pure_bind]
    repeat (first | exact IsSeq.nil | exact isSeq_last _ | apply IsSeq.cons)

/-- Window 4 of the reference's main program as the list of its operations. -/
def win3 : {ops : List (HloOp τ sig (Elt F)) // ∀ c, IsSeq (main_part3 (F := F) c) ops} := by
  apply Subtype.mk
  · intro c
    simp only [main_part3, fn_relu.body, fn_relu_0.body, fn_relu_1.body, bind_assoc, pure_bind]
    repeat (first | exact IsSeq.nil | exact isSeq_last _ | apply IsSeq.cons)

/-- All operations of the reference's main program, in order. -/
def ops : List (HloOp τ sig (Elt F)) := win0.1 ++ win1.1 ++ win2.1 ++ win3.1

/-- The reference's main program is the straight line of `ops`. -/
theorem main_isSeq (c : Dev nD) : IsSeq (main (F := F) c) ops := by
  have h0 := (win0 (F := F)).2 c
  have h1 := (win1 (F := F)).2 c
  have h2 := (win2 (F := F)).2 c
  have h3 := (win3 (F := F)).2 c
  unfold IsSeq at h0 h1 h2 h3 ⊢
  rw [main, h0, h1, h2, h3, ops, seq_append, seq_append, seq_append]
  simp only [bind_assoc]

/-- The operations of the encoder, with the zero the quantised vector starts from. -/
def segE : List (HloOp τ sig (Elt F)) := ops.take 27
/-- The operations of the first quantisation stage. -/
def seg0 : List (HloOp τ sig (Elt F)) := (ops.drop 27).take 68
/-- The operations of the second quantisation stage. -/
def seg1 : List (HloOp τ sig (Elt F)) := (ops.drop 95).take 68
/-- The operations of the third quantisation stage. -/
def seg2 : List (HloOp τ sig (Elt F)) := (ops.drop 163).take 68
/-- The operations of the fourth quantisation stage. -/
def seg3 : List (HloOp τ sig (Elt F)) := (ops.drop 231).take 68
/-- The operations that assemble the losses and the indices and decode. -/
def segD : List (HloOp τ sig (Elt F)) := ops.drop 299

/-- The whole line is the six segments one after the other. -/
theorem ops_eq : (ops : List (HloOp τ sig (Elt F))) = segE ++ (seg0 ++ (seg1 ++ (seg2 ++ (seg3 ++ segD)))) := rfl

/-- The contents after a concatenation of lines: those after the second line from those after the first. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- No buffer of the reference belongs to a kernel region. -/
theorem no_scoped_refs : (Finset.univ.filter fun b : Ref sig .tc => b.isScoped) = ∅ := by decide
/-- No semaphore of the reference belongs to a kernel region. -/
theorem no_scoped_sems : (Finset.univ.filter fun sm : SemLoc sig => sm.isScoped .tc) = ∅ := by decide

/-- No operation of the reference writes a buffer whose contents it does not choose. -/
theorem ops_fresh : ∀ op ∈ (ops : List (HloOp τ sig (Elt F))), op.fresh = ∅ :=
  List.forall_iff_forall_mem.mp (forall_fresh_of_map rfl)

end Cert.ReferenceIdeal.Ref
-- ==== Proof.Ref.Terms.lean ====
/- What the reference computes, as functions of arrays: its encoder, one quantisation stage in its parts (distance to
   every code, index of the nearest, the chosen code, the stage's loss), the mean of the losses, the table of indices and
   the decoder. Each is the composition of the printed operations, said once and used for all four stages. -/
module

public import proofs.«01_k».proof.Proof.Gen.ReferenceIdeal

@[expose] public section

noncomputable section

namespace Cert.ReferenceIdeal.Ref

open Cert.ReferenceIdeal Cert.ReferenceIdeal.Gen Idealize.ShloMosaic Idealize.ShloMosaic.StableHlo

variable {F : FTy → Type} [FloatOps F]

/-- An array of elements of type `e`, as a buffer's contents. -/
abbrev Arr (F : FTy → Type) (S : Shape) (e : EltTy) : Type := (⟨S, e⟩ : BufTy).Contents (Elt F)

/-- A linear layer into 512 features followed by the maximum with zero. -/
def lay512 (x : Arr F S4096x512 .f32) (b : Arr F S512 .f32) : Arr F S4096x512 .f32 :=
  maximumf (addf x (broadcastInDim S4096x512 ![0, 1] bcast_S1x512_S4096x512_0_1 (broadcastInDim S1x512 ![1] bcast_S512_S1x512_1 b)))
    (broadcastInDim S4096x512 ![] bcast_S_S4096x512 (constant S_ .f32 0x00000000#32))

/-- A bias on 256 features followed by the maximum with zero. -/
def lay256 (x : Arr F S4096x256 .f32) (b : Arr F S256 .f32) : Arr F S4096x256 .f32 :=
  maximumf (addf x (broadcastInDim S4096x256 ![0, 1] bcast_S1x256_S4096x256_0_1 (broadcastInDim S1x256 ![1] bcast_S256_S1x256_1 b)))
    (broadcastInDim S4096x256 ![] bcast_S_S4096x256 (constant S_ .f32 0x00000000#32))

/-- A bias on 128 features followed by the maximum with zero. -/
def lay128 (x : Arr F S4096x128 .f32) (b : Arr F S128 .f32) : Arr F S4096x128 .f32 :=
  maximumf (addf x (broadcastInDim S4096x128 ![0, 1] bcast_S1x128_S4096x128_0_1 (broadcastInDim S1x128 ![1] bcast_S128_S1x128_1 b)))
    (broadcastInDim S4096x128 ![] bcast_S_S4096x128 (constant S_ .f32 0x00000000#32))

/-- The encoder: four linear layers, with the maximum with zero after the first three. -/
def enc (x : Arr F S4096x768 .f32) (w1 : Arr F S768x512 .f32) (b1 : Arr F S512 .f32) (w2 : Arr F S512x256 .f32) (b2 : Arr F S256 .f32)
    (w3 : Arr F S256x128 .f32) (b3 : Arr F S128 .f32) (w4 : Arr F S128x64 .f32) (b4 : Arr F S64 .f32) : Arr F S4096x64 .f32 :=
  addf (Host.dotGeneral dot_S4096x128_S128x64_S4096x64_1_0_0_1_n_n none
    (lay128 (Host.dotGeneral dot_S4096x256_S256x128_S4096x128_1_0_0_1_n_n none
      (lay256 (Host.dotGeneral dot_S4096x512_S512x256_S4096x256_1_0_0_1_n_n none
        (lay512 (Host.dotGeneral dot_S4096x768_S768x512_S4096x512_1_0_0_1_n_n none x w1) b1) w2) b2) w3) b3) w4)
    (broadcastInDim S4096x64 ![0, 1] bcast_S1x64_S4096x64_0_1 (broadcastInDim S1x64 ![1] bcast_S64_S1x64_1 b4))

/-- The quantised vector before the first stage: zero. -/
def zeros : Arr F S4096x64 .f32 := broadcastInDim S4096x64 ![] bcast_S_S4096x64 (constant S_ .f32 0x00000000#32)

/-- The codes of the first stage. -/
def cb0 (c : Arr F S4x256x64 .f32) : Arr F S256x64 .f32 :=
  shapeCast S256x64 (extractStridedSlice S1x256x64 ![0, 0, 0] c slices_S4x256x64_S1x256x64_0_0_0) shapeCasts_S1x256x64_S256x64
/-- The codes of the second stage. -/
def cb1 (c : Arr F S4x256x64 .f32) : Arr F S256x64 .f32 :=
  shapeCast S256x64 (extractStridedSlice S1x256x64 ![1, 0, 0] c slices_S4x256x64_S1x256x64_1_0_0) shapeCasts_S1x256x64_S256x64
/-- The codes of the third stage. -/
def cb2 (c : Arr F S4x256x64 .f32) : Arr F S256x64 .f32 :=
  shapeCast S256x64 (extractStridedSlice S1x256x64 ![2, 0, 0] c slices_S4x256x64_S1x256x64_2_0_0) shapeCasts_S1x256x64_S256x64
/-- The codes of the fourth stage. -/
def cb3 (c : Arr F S4x256x64 .f32) : Arr F S256x64 .f32 :=
  shapeCast S256x64 (extractStridedSlice S1x256x64 ![3, 0, 0] c slices_S4x256x64_S1x256x64_3_0_0) shapeCasts_S1x256x64_S256x64

/-- The squared distance from every row's residual to every code: the residual's square, less twice the product, plus the code's square. -/
def dist (res : Arr F S4096x64 .f32) (cb : Arr F S256x64 .f32) : Arr F S4096x256 .f32 :=
  addf (subf (broadcastInDim S4096x256 ![0, 1] bcast_S4096x1_S4096x256_0_1 (broadcastInDim S4096x1 ![0] bcast_S4096_S4096x1_0
        (Host.reduceAdd (mulf res res) (constant S_ .f32 0x00000000#32) reducesTo_S4096x64_S4096_d1 h_S_)))
      (mulf (broadcastInDim S4096x256 ![] bcast_S_S4096x256 (constant S_ .f32 0x40000000#32))
        (Host.dotGeneral dot_S4096x64_S64x256_S4096x256_1_0_0_1_n_n none res (transpose S64x256 [1, 0] cb transposes_S256x64_S64x256_1_0))))
    (broadcastInDim S4096x256 ![0, 1] bcast_S1x256_S4096x256_0_1 (broadcastInDim S1x256 ![1] bcast_S256_S1x256_1
      (Host.reduceAdd (mulf cb cb) (constant S_ .f32 0x00000000#32) reducesTo_S256x64_S256_d1 h_S_)))

/-- The index of the nearest code of every row. -/
def argm (d : Arr F S4096x256 .f32) : Arr F S4096 .i32 := fun j =>
  (Host.argReduce reducer_argmin_f32_i32 d (iotaInDim S4096x256 32 1) (constant S_ .f32 0x7F800000#32) (constantI S_ 32 0#32)
    reducesTo_S4096x256_S4096_d1 h_S_ j).2

/-- The index with a negative one counted from the end, as a column. -/
def wrap (i : Arr F S4096 .i32) : Arr F S4096x1 .i32 :=
  broadcastInDim S4096x1 ![0] bcast_S4096_S4096x1_0
    (select (cmpi .slt i (broadcastInDim S4096 ![] bcast_S_S4096 (constantI S_ 32 0#32)))
      (addi i (broadcastInDim S4096 ![] bcast_S_S4096 (constantI S_ 32 256#32))) i)

/-- The code of every row's index, a row out of range standing for no number. -/
def takeRows (cb : Arr F S256x64 .f32) (i : Arr F S4096 .i32) : Arr F S4096x64 .f32 :=
  select (broadcastInDim S4096x64 ![0] bcast_S4096_S4096x64_0
      (Host.reduce IntOp.andi (andi (cmpi .sge (wrap (F := F) i) (broadcastInDim S4096x1 ![] bcast_S_S4096x1 (constantI S_ 32 0#32)))
          (cmpi .sle (wrap (F := F) i) (broadcastInDim S4096x1 ![0, 1] bcast_S1x1_S4096x1_0_1 (broadcastInDim S1x1 ![1] bcast_S1_S1x1_1 (constantI S1 32 255#32)))))
        (constantI S_ 1 1#1) reducesTo_S4096x1_S4096_d1 h_S_))
    (Host.gather gather_S256x64_S4096x1_S4096x64_1_0_n_n_0_1_164 cb (wrap (F := F) i))
    (broadcastInDim S4096x64 ![] bcast_S_S4096x64 (constant S_ .f32 0x7FC00000#32))

/-- The mean over the rows of the squared difference of the chosen code and the residual. -/
def msq (q res : Arr F S4096x64 .f32) : Arr F S_ .f32 :=
  Host.divf (Host.reduceAdd (Host.reduceAdd (mulf (subf q res) (subf q res)) (constant S_ .f32 0x00000000#32) reducesTo_S4096x64_S4096_d1 h_S_)
    (constant S_ .f32 0x00000000#32) reducesTo_S4096_S_d0 h_S_) (constant S_ .f32 0x45800000#32)

/-- One stage's loss: the mean square, plus a quarter of it. -/
def loss (q res : Arr F S4096x64 .f32) : Arr F S_ .f32 := addf (msq q res) (mulf (constant S_ .f32 0x3E800000#32) (msq q res))

/-- The mean of four losses. -/
def mean4 (a b c d : Arr F S_ .f32) : Arr F S_ .f32 :=
  Host.divf (Host.reduceAdd (concatenate S4 0 [⟨S1, broadcastInDim S1 ![] bcast_S_S1 a⟩, ⟨S1, broadcastInDim S1 ![] bcast_S_S1 b⟩,
      ⟨S1, broadcastInDim S1 ![] bcast_S_S1 c⟩, ⟨S1, broadcastInDim S1 ![] bcast_S_S1 d⟩] concatenates_S1_S1_S1_S1_S4_d0 : Arr F S4 .f32)
    (constant S_ .f32 0x00000000#32) reducesTo_S4_S_d0 h_S_) (constant S_ .f32 0x40800000#32)

/-- Four columns of indices side by side. -/
def table (a b c d : Arr F S4096 .i32) : Arr F S4096x4 .i32 :=
  concatenate S4096x4 1 [⟨S4096x1, broadcastInDim S4096x1 ![0] bcast_S4096_S4096x1_0 a⟩, ⟨S4096x1, broadcastInDim S4096x1 ![0] bcast_S4096_S4096x1_0 b⟩,
    ⟨S4096x1, broadcastInDim S4096x1 ![0] bcast_S4096_S4096x1_0 c⟩, ⟨S4096x1, broadcastInDim S4096x1 ![0] bcast_S4096_S4096x1_0 d⟩]
    concatenates_S4096x1_S4096x1_S4096x1_S4096x1_S4096x4_d1

/-- The decoder: four linear layers, with the maximum with zero after the first three. -/
def dec (z : Arr F S4096x64 .f32) (w1 : Arr F S64x128 .f32) (b1 : Arr F S128 .f32) (w2 : Arr F S128x256 .f32) (b2 : Arr F S256 .f32)
    (w3 : Arr F S256x512 .f32) (b3 : Arr F S512 .f32) (w4 : Arr F S512x768 .f32) (b4 : Arr F S768 .f32) : Arr F S4096x768 .f32 :=
  addf (Host.dotGeneral dot_S4096x512_S512x768_S4096x768_1_0_0_1_n_n none
    (lay512 (Host.dotGeneral dot_S4096x256_S256x512_S4096x512_1_0_0_1_n_n none
      (lay256 (Host.dotGeneral dot_S4096x128_S128x256_S4096x256_1_0_0_1_n_n none
        (lay128 (Host.dotGeneral dot_S4096x64_S64x128_S4096x128_1_0_0_1_n_n none z w1) b1) w2) b2) w3) b3) w4)
    (broadcastInDim S4096x768 ![0, 1] bcast_S1x768_S4096x768_0_1 (broadcastInDim S1x768 ![1] bcast_S768_S1x768_1 b4))

/-- The chosen codes of a stage. -/
def quant (res : Arr F S4096x64 .f32) (cb : Arr F S256x64 .f32) : Arr F S4096x64 .f32 := takeRows cb (argm (dist res cb))

end Cert.ReferenceIdeal.Ref
-- ==== Proof.Ref.Segs.lean ====
/- What each segment of the reference's operations leaves in the buffers a later one reads, from any contents. -/
module

public import proofs.«01_k».proof.Proof.Ref.Ops
public import proofs.«01_k».proof.Proof.Ref.Terms

@[expose] public section

set_option maxRecDepth 65536

noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F]

/-- The encoder's segment leaves the encoded rows. -/
theorem segE_h (V : Valuation τ sig (Elt F)) :
    after segE V (main_v18 : DevRef τ sig) = enc (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  after_reads_simp
  try simp only [TRef.ofBuf_toBuf]
  rfl

/-- The encoder's segment leaves zeros for the quantised rows. -/
theorem segE_z (V : Valuation τ sig (Elt F)) : after segE V (main_v19 : DevRef τ sig) = zeros (F := F) := by
  after_reads_simp
  try simp only [TRef.ofBuf_toBuf]
  rfl

/-- The first stage leaves the index of the nearest code of every row. -/
theorem seg0_idx (V : Valuation τ sig (Elt F)) :
    after seg0 V (main_v36 : DevRef τ sig) = argm (F := F) (dist (V (main_v18 : DevRef τ sig)) (cb0 (V (main_arg17 : DevRef τ sig)))) := by
  after_reads_simp
  try simp only [TRef.ofBuf_toBuf]
  rfl

/-- The first stage leaves the stage's loss. -/
theorem seg0_loss (V : Valuation τ sig (Elt F)) :
    after seg0 V (main_v49 : DevRef τ sig) = loss (F := F) (quant (F := F) (V (main_v18 : DevRef τ sig)) (cb0 (V (main_arg17 : DevRef τ sig)))) (V (main_v18 : DevRef τ sig)) := by
  after_reads_simp
  try simp only [TRef.ofBuf_toBuf]
  rfl

/-- The first stage leaves the residual less the chosen codes. -/
theorem seg0_res (V : Valuation τ sig (Elt F)) :
    after seg0 V (main_v50 : DevRef τ sig) = subf (F := F) (V (main_v18 : DevRef τ sig)) (quant (F := F) (V (main_v18 : DevRef τ sig)) (cb0 (V (main_arg17 : DevRef τ sig)))) := by
  after_reads_simp
  try simp only [TRef.ofBuf_toBuf]
  rfl

/-- The first stage leaves the quantised rows with the chosen codes added. -/
theorem seg0_xq (V : Valuation τ sig (Elt F)) :
    after seg0 V (main_v51 : DevRef τ sig) = addf (F := F) (V (main_v19 : DevRef τ sig)) (quant (F := F) (V (main_v18 : DevRef τ sig)) (cb0 (V (main_arg17 : DevRef τ sig)))) := by
  after_reads_simp
  try simp only [TRef.ofBuf_toBuf]
  rfl

/-- The second stage leaves the index of the nearest code of every row. -/
theorem seg1_idx (V : Valuation τ sig (Elt F)) :
    after seg1 V (main_v68 : DevRef τ sig) = argm (F := F) (dist (V (main_v50 : DevRef τ sig)) (cb1 (V (main_arg17 : DevRef τ sig)))) := by
  after_reads_simp
  try simp only [TRef.ofBuf_toBuf]
  rfl

/-- The second stage leaves the stage's loss. -/
theorem seg1_loss (V : Valuation τ sig (Elt F)) :
    after seg1 V (main_v81 : DevRef τ sig) = loss (F := F) (quant (F := F) (V (main_v50 : DevRef τ sig)) (cb1 (V (main_arg17 : DevRef τ sig)))) (V (main_v50 : DevRef τ sig)) := by
  after_reads_simp
  try simp only [TRef.ofBuf_toBuf]
  rfl

/-- The second stage leaves the residual less the chosen codes. -/
theorem seg1_res (V : Valuation τ sig (Elt F)) :
    after seg1 V (main_v82 : DevRef τ sig) = subf (F := F) (V (main_v50 : DevRef τ sig)) (quant (F := F) (V (main_v50 : DevRef τ sig)) (cb1 (V (main_arg17 : DevRef τ sig)))) := by
  after_reads_simp
  try simp only [TRef.ofBuf_toBuf]
  rfl

/-- The second stage leaves the quantised rows with the chosen codes added. -/
theorem seg1_xq (V : Valuation τ sig (Elt F)) :
    after seg1 V (main_v83 : DevRef τ sig) = addf (F := F) (V (main_v51 : DevRef τ sig)) (quant (F := F) (V (main_v50 : DevRef τ sig)) (cb1 (V (main_arg17 : DevRef τ sig)))) := by
  after_reads_simp
  try simp only [TRef.ofBuf_toBuf]
  rfl

/-- The third stage leaves the index of the nearest code of every row. -/
theorem seg2_idx (V : Valuation τ sig (Elt F)) :
    after seg2 V (main_v100 : DevRef τ sig) = argm (F := F) (dist (V (main_v82 : DevRef τ sig)) (cb2 (V (main_arg17 : DevRef τ sig)))) := by
  after_reads_simp
  try simp only [TRef.ofBuf_toBuf]
  rfl

/-- The third stage leaves the stage's loss. -/
theorem seg2_loss (V : Valuation τ sig (Elt F)) :
    after seg2 V (main_v113 : DevRef τ sig) = loss (F := F) (quant (F := F) (V (main_v82 : DevRef τ sig)) (cb2 (V (main_arg17 : DevRef τ sig)))) (V (main_v82 : DevRef τ sig)) := by
  after_reads_simp
  try simp only [TRef.ofBuf_toBuf]
  rfl

/-- The third stage leaves the residual less the chosen codes. -/
theorem seg2_res (V : Valuation τ sig (Elt F)) :
    after seg2 V (main_v114 : DevRef τ sig) = subf (F := F) (V (main_v82 : DevRef τ sig)) (quant (F := F) (V (main_v82 : DevRef τ sig)) (cb2 (V (main_arg17 : DevRef τ sig)))) := by
  after_reads_simp
  try simp only [TRef.ofBuf_toBuf]
  rfl

/-- The third stage leaves the quantised rows with the chosen codes added. -/
theorem seg2_xq (V : Valuation τ sig (Elt F)) :
    after seg2 V (main_v115 : DevRef τ sig) = addf (F := F) (V (main_v83 : DevRef τ sig)) (quant (F := F) (V (main_v82 : DevRef τ sig)) (cb2 (V (main_arg17 : DevRef τ sig)))) := by
  after_reads_simp
  try simp only [TRef.ofBuf_toBuf]
  rfl

/-- The fourth stage leaves the index of the nearest code of every row. -/
theorem seg3_idx (V : Valuation τ sig (Elt F)) :
    after seg3 V (main_v132 : DevRef τ sig) = argm (F := F) (dist (V (main_v114 : DevRef τ sig)) (cb3 (V (main_arg17 : DevRef τ sig)))) := by
  after_reads_simp
  try simp only [TRef.ofBuf_toBuf]
  rfl

/-- The fourth stage leaves the stage's loss. -/
theorem seg3_loss (V : Valuation τ sig (Elt F)) :
    after seg3 V (main_v145 : DevRef τ sig) = loss (F := F) (quant (F := F) (V (main_v114 : DevRef τ sig)) (cb3 (V (main_arg17 : DevRef τ sig)))) (V (main_v114 : DevRef τ sig)) := by
  after_reads_simp
  try simp only [TRef.ofBuf_toBuf]
  rfl

/-- The fourth stage leaves the quantised rows with the chosen codes added. -/
theorem seg3_xq (V : Valuation τ sig (Elt F)) :
    after seg3 V (main_v147 : DevRef τ sig) = addf (F := F) (V (main_v115 : DevRef τ sig)) (quant (F := F) (V (main_v114 : DevRef τ sig)) (cb3 (V (main_arg17 : DevRef τ sig)))) := by
  after_reads_simp
  try simp only [TRef.ofBuf_toBuf]
  rfl

/-- The arguments. -/
def argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-- What the segment leaves as it found it. -/
theorem segE_keep (V : Valuation τ sig (Elt F)) : ∀ b ∈ argRefs, after segE V (Proc.devRef .tc b) = V (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl | rfl | rfl <;> after_reads_simp

/-- What the segment leaves as it found it. -/
theorem seg0_keep (V : Valuation τ sig (Elt F)) : ∀ b ∈ (main_v18 :: argRefs), after seg0 V (Proc.devRef .tc b) = V (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl | rfl | rfl | rfl <;> after_reads_simp

/-- What the segment leaves as it found it. -/
theorem seg1_keep (V : Valuation τ sig (Elt F)) : ∀ b ∈ (main_v18 :: main_v36 :: main_v49 :: argRefs), after seg1 V (Proc.devRef .tc b) = V (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl <;> after_reads_simp

/-- What the segment leaves as it found it. -/
theorem seg2_keep (V : Valuation τ sig (Elt F)) : ∀ b ∈ (main_v18 :: main_v36 :: main_v49 :: main_v68 :: main_v81 :: argRefs), after seg2 V (Proc.devRef .tc b) = V (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl <;> after_reads_simp

/-- What the segment leaves as it found it. -/
theorem seg3_keep (V : Valuation τ sig (Elt F)) : ∀ b ∈ (main_v18 :: main_v36 :: main_v49 :: main_v68 :: main_v81 :: main_v100 :: main_v113 :: argRefs), after seg3 V (Proc.devRef .tc b) = V (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl | rfl | rfl <;> after_reads_simp

/-- What the segment leaves as it found it. -/
theorem segD_keep (V : Valuation τ sig (Elt F)) : ∀ b ∈ argRefs, after segD V (Proc.devRef .tc b) = V (Proc.devRef .tc b) := by
  intro b hb
  simp only [argRefs, List.mem_cons, List.not_mem_nil, or_false] at hb
  rcases hb with rfl | rfl | rfl | rfl | rfl | rfl | rfl | rfl | rfl | rfl | rfl | rfl | rfl | rfl | rfl | rfl | rfl | rfl <;> after_reads_simp

/-- The last segment leaves the mean of the four losses, as a one-by-one array. -/
theorem segD_loss (V : Valuation τ sig (Elt F)) :
    after segD V (main_v181 : DevRef τ sig) = shapeCast S1x1 (mean4 (F := F) (V (main_v49 : DevRef τ sig)) (V (main_v81 : DevRef τ sig)) (V (main_v113 : DevRef τ sig)) (V (main_v145 : DevRef τ sig))) shapeCasts_S_S1x1 := by
  after_reads_simp
  try simp only [TRef.ofBuf_toBuf]
  rfl

/-- The last segment leaves the table of the four stages' indices. -/
theorem segD_idx (V : Valuation τ sig (Elt F)) :
    after segD V (main_v159 : DevRef τ sig) = table (F := F) (V (main_v36 : DevRef τ sig)) (V (main_v68 : DevRef τ sig)) (V (main_v100 : DevRef τ sig)) (V (main_v132 : DevRef τ sig)) := by
  after_reads_simp
  try simp only [TRef.ofBuf_toBuf]
  rfl

/-- The last segment leaves the decoded rows, decoded from the encoded rows plus their difference from the quantised ones. -/
theorem segD_out (V : Valuation τ sig (Elt F)) :
    after segD V (main_v180 : DevRef τ sig) = dec (addf (F := F) (V (main_v18 : DevRef τ sig)) (subf (F := F) (V (main_v147 : DevRef τ sig)) (V (main_v18 : DevRef τ sig)))) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) := by
  after_reads_simp
  try simp only [TRef.ofBuf_toBuf]
  rfl

end Cert.ReferenceIdeal.Ref
-- ==== Proof.Ref.Run.lean ====
/- The run of the reference: the three results as functions of the launch's arguments, the arguments unchanged, every
   counter zero. -/
module

public import proofs.«01_k».proof.Proof.Ref.Segs
public import Idealize.ShloMosaic.Lib.Quiescent

@[expose] public section

set_option maxRecDepth 65536

noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F]

/-- Every operation of the reference reads and writes the one core's buffers only. -/
theorem ops_sub : (ops : List (HloOp τ sig (Elt F))).Forall fun op => op.bufs ⊆ tcRefs τ sig := by
  unfold ops win0 win1 win2 win3
  simp

/-- The reference has no semaphore. -/
theorem no_sems : sig.nSem + sig.nDmaSem = 0 := by decide

/-- The residual after one stage. -/
def r1 (h : Arr F S4096x64 .f32) (c : Arr F S4x256x64 .f32) : Arr F S4096x64 .f32 := subf h (quant h (cb0 c))
/-- The residual after two stages. -/
def r2 (h : Arr F S4096x64 .f32) (c : Arr F S4x256x64 .f32) : Arr F S4096x64 .f32 := subf (r1 h c) (quant (r1 h c) (cb1 c))
/-- The residual after three stages. -/
def r3 (h : Arr F S4096x64 .f32) (c : Arr F S4x256x64 .f32) : Arr F S4096x64 .f32 := subf (r2 h c) (quant (r2 h c) (cb2 c))

/-- The quantised rows after the four stages. -/
def xq (h : Arr F S4096x64 .f32) (c : Arr F S4x256x64 .f32) : Arr F S4096x64 .f32 :=
  addf (addf (addf (addf zeros (quant h (cb0 c))) (quant (r1 h c) (cb1 c))) (quant (r2 h c) (cb2 c))) (quant (r3 h c) (cb3 c))

/-- The loss of the whole, of the encoded rows and the codes. -/
def totalLoss (h : Arr F S4096x64 .f32) (c : Arr F S4x256x64 .f32) : Arr F S1x1 .f32 :=
  shapeCast S1x1 (mean4 (loss (quant h (cb0 c)) h) (loss (quant (r1 h c) (cb1 c)) (r1 h c)) (loss (quant (r2 h c) (cb2 c)) (r2 h c))
    (loss (quant (r3 h c) (cb3 c)) (r3 h c))) shapeCasts_S_S1x1

/-- The indices of the four stages, of the encoded rows and the codes. -/
def indices (h : Arr F S4096x64 .f32) (c : Arr F S4x256x64 .f32) : Arr F S4096x4 .i32 :=
  table (F := F) (argm (dist h (cb0 c))) (argm (dist (r1 h c) (cb1 c))) (argm (dist (r2 h c) (cb2 c))) (argm (dist (r3 h c) (cb3 c)))

/-- The rows given to the decoder. -/
def decIn (h : Arr F S4096x64 .f32) (c : Arr F S4x256x64 .f32) : Arr F S4096x64 .f32 := addf h (subf (xq h c) h)

/-- No operation of the reference writes an argument. -/
theorem ops_keep (V : Valuation τ sig (Elt F)) (b : Ref sig .tc) (hb : b ∈ argRefs) :
    after ops V (Proc.devRef .tc b) = V (Proc.devRef .tc b) := by
  simp only [ops_eq, after_app]
  rw [segD_keep _ b hb, seg3_keep _ b (by simp [hb]), seg2_keep _ b (by simp [hb]), seg1_keep _ b (by simp [hb]),
    seg0_keep _ b (by simp [hb]), segE_keep _ b hb]

/-- The encoded rows of contents `V`. -/
def encV (V : Valuation τ sig (Elt F)) : Arr F S4096x64 .f32 :=
  enc (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig))
/-- The codes of contents `V`. -/
def cbV (V : Valuation τ sig (Elt F)) : Arr F S4x256x64 .f32 := V (main_arg17 : DevRef τ sig)

/-- The state after the four stages: the encoded rows, every stage's index and loss, the quantised rows, and the arguments. -/
theorem stages (V : Valuation τ sig (Elt F)) :
    let W := after seg3 (after seg2 (after seg1 (after seg0 (after segE V))))
    let h := encV V; let c := cbV V
    W (main_v18 : DevRef τ sig) = h ∧ W (main_v147 : DevRef τ sig) = xq h c
      ∧ W (main_v36 : DevRef τ sig) = argm (F := F) (dist h (cb0 c)) ∧ W (main_v68 : DevRef τ sig) = argm (F := F) (dist (r1 h c) (cb1 c))
      ∧ W (main_v100 : DevRef τ sig) = argm (F := F) (dist (r2 h c) (cb2 c)) ∧ W (main_v132 : DevRef τ sig) = argm (F := F) (dist (r3 h c) (cb3 c))
      ∧ W (main_v49 : DevRef τ sig) = loss (F := F) (quant h (cb0 c)) h ∧ W (main_v81 : DevRef τ sig) = loss (F := F) (quant (r1 h c) (cb1 c)) (r1 h c)
      ∧ W (main_v113 : DevRef τ sig) = loss (F := F) (quant (r2 h c) (cb2 c)) (r2 h c)
      ∧ W (main_v145 : DevRef τ sig) = loss (F := F) (quant (r3 h c) (cb3 c)) (r3 h c)
      ∧ ∀ b ∈ argRefs, W (Proc.devRef .tc b) = V (Proc.devRef .tc b) := by
  intro W h c
  subst W
  have kE := segE_keep V
  have k0 := seg0_keep (after segE V)
  have k1 := seg1_keep (after seg0 (after segE V))
  have k2 := seg2_keep (after seg1 (after seg0 (after segE V)))
  have k3 := seg3_keep (after seg2 (after seg1 (after seg0 (after segE V))))
  have a0 : ∀ b ∈ argRefs, after seg0 (after segE V) (Proc.devRef .tc b) = V (Proc.devRef .tc b) := fun b hb => by
    rw [k0 b (by simp [hb]), kE b hb]
  have a1 : ∀ b ∈ argRefs, after seg1 (after seg0 (after segE V)) (Proc.devRef .tc b) = V (Proc.devRef .tc b) := fun b hb => by
    rw [k1 b (by simp [hb]), a0 b hb]
  have a2 : ∀ b ∈ argRefs, after seg2 (after seg1 (after seg0 (after segE V))) (Proc.devRef .tc b) = V (Proc.devRef .tc b) := fun b hb => by
    rw [k2 b (by simp [hb]), a1 b hb]
  have m17 : main_arg17 ∈ argRefs := by simp [argRefs]
  have hh : after segE V (main_v18 : DevRef τ sig) = h := segE_h V
  have h0 : after seg0 (after segE V) (main_v50 : DevRef τ sig) = r1 h c := by
    rw [seg0_res, hh, kE _ m17]; rfl
  have h1 : after seg1 (after seg0 (after segE V)) (main_v82 : DevRef τ sig) = r2 h c := by
    rw [seg1_res, h0, a0 _ m17]; rfl
  have h2 : after seg2 (after seg1 (after seg0 (after segE V))) (main_v114 : DevRef τ sig) = r3 h c := by
    rw [seg2_res, h1, a1 _ m17]; rfl
  refine ⟨?_, ?_, ?_, ?_, ?_, ?_, ?_, ?_, ?_, ?_, ?_⟩
  · rw [k3 _ (by simp), k2 _ (by simp), k1 _ (by simp), k0 _ (by simp), hh]
  · rw [seg3_xq, seg2_xq, seg1_xq, seg0_xq, segE_z, h2, h1, h0, hh, kE _ m17, a0 _ m17, a1 _ m17, a2 _ m17]; rfl
  · rw [k3 _ (by simp), k2 _ (by simp), k1 _ (by simp), seg0_idx, hh, kE _ m17]; rfl
  · rw [k3 _ (by simp), k2 _ (by simp), seg1_idx, h0, a0 _ m17]; rfl
  · rw [k3 _ (by simp), seg2_idx, h1, a1 _ m17]; rfl
  · rw [seg3_idx, h2, a2 _ m17]; rfl
  · rw [k3 _ (by simp), k2 _ (by simp), k1 _ (by simp), seg0_loss, hh, kE _ m17]; rfl
  · rw [k3 _ (by simp), k2 _ (by simp), seg1_loss, h0, a0 _ m17]; rfl
  · rw [k3 _ (by simp), seg2_loss, h1, a1 _ m17]; rfl
  · rw [seg3_loss, h2, a2 _ m17]; rfl
  · intro b hb
    rw [k3 b (by simp [hb]), a2 b hb]

/-- The three results of the reference, of any contents of its arguments. -/
theorem results (V : Valuation τ sig (Elt F)) :
    after ops V (main_v180 : DevRef τ sig) = dec (decIn (encV V) (cbV V)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig))
      ∧ after ops V (main_v181 : DevRef τ sig) = totalLoss (encV V) (cbV V)
      ∧ after ops V (main_v159 : DevRef τ sig) = indices (encV V) (cbV V) := by
  obtain ⟨e1, e2, i0, i1, i2, i3, l0, l1, l2, l3, hk⟩ := stages V
  have K : ∀ b ∈ argRefs, _ := hk
  simp only [ops_eq, after_app]
  refine ⟨?_, ?_, ?_⟩
  · rw [segD_out, e1, e2, K _ (by simp [argRefs]), K _ (by simp [argRefs]), K _ (by simp [argRefs]), K _ (by simp [argRefs]),
      K _ (by simp [argRefs]), K _ (by simp [argRefs]), K _ (by simp [argRefs]), K _ (by simp [argRefs])]
    rfl
  · rw [segD_loss, l0, l1, l2, l3]; rfl
  · rw [segD_idx, i0, i1, i2, i3]; rfl

/-- Every execution of the reference from zero counters terminates; every buffer ends as the operations leave it from
    the launch contents, and every counter ends at zero. -/
theorem run (m : (ℓ : Loc nD τ sig) → Buf (Elt F) ℓ) (ρ : Dev nD → PrngReg) :
    θ_run (defs (F := F)) (onTc (τ := τ) (main (F := F))) ⟨m, fun _ => 0, ρ⟩ fun r =>
      (∀ (c : Dev nD) (b : Ref sig .tc), r.2.mem ((c.tc : Thread nD τ).loc b) = after ops (launchContents m c) (Proc.devRef .tc b))
        ∧ r.2.sem = fun _ => 0 :=
  (θ_run defs _ _).mono (fun r h => ⟨h, Idealize.ShloMosaic.sem_eq_zero_of_no_sems no_sems r.2⟩)
    (run_hlo defs main main_isSeq no_scoped_refs no_scoped_sems ops_sub ops_fresh m ρ)

/-- Every execution of the reference from zero counters terminates with the arguments unchanged and every counter zero. -/
theorem frame (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
        ∧ r.2.sem = fun _ => 0 :=
  (θ_run defs _ _).mono (fun r h => ⟨fun c => ⟨(h.1 c main_arg0).trans (ops_keep _ main_arg0 (by simp [argRefs])),
    (h.1 c main_arg1).trans (ops_keep _ main_arg1 (by simp [argRefs])),
    (h.1 c main_arg2).trans (ops_keep _ main_arg2 (by simp [argRefs])),
    (h.1 c main_arg3).trans (ops_keep _ main_arg3 (by simp [argRefs])),
    (h.1 c main_arg4).trans (ops_keep _ main_arg4 (by simp [argRefs])),
    (h.1 c main_arg5).trans (ops_keep _ main_arg5 (by simp [argRefs])),
    (h.1 c main_arg6).trans (ops_keep _ main_arg6 (by simp [argRefs])),
    (h.1 c main_arg7).trans (ops_keep _ main_arg7 (by simp [argRefs])),
    (h.1 c main_arg8).trans (ops_keep _ main_arg8 (by simp [argRefs])),
    (h.1 c main_arg9).trans (ops_keep _ main_arg9 (by simp [argRefs])),
    (h.1 c main_arg10).trans (ops_keep _ main_arg10 (by simp [argRefs])),
    (h.1 c main_arg11).trans (ops_keep _ main_arg11 (by simp [argRefs])),
    (h.1 c main_arg12).trans (ops_keep _ main_arg12 (by simp [argRefs])),
    (h.1 c main_arg13).trans (ops_keep _ main_arg13 (by simp [argRefs])),
    (h.1 c main_arg14).trans (ops_keep _ main_arg14 (by simp [argRefs])),
    (h.1 c main_arg15).trans (ops_keep _ main_arg15 (by simp [argRefs])),
    (h.1 c main_arg16).trans (ops_keep _ main_arg16 (by simp [argRefs])),
    (h.1 c main_arg17).trans (ops_keep _ main_arg17 (by simp [argRefs]))⟩, h.2⟩) (run m ρ)

end Cert.ReferenceIdeal.Ref
-- ==== Proof.Pre.Facts.lean ====
/- The shape relations the precondition's printed function takes, each decided, as the instance of its facts. -/
module

public import proofs.«01_k».proof.Pre_finite

@[expose] public section

namespace Cert.Pre_finite

open Idealize.ShloMosaic

/-- The precondition's shape relations hold. -/
instance facts : Cert.Pre_finite.Facts where
  bcast_S_S4096x768 := by decide
  reducesTo_S4096x768_S_d0_1 := by decide
  h_S_ := by decide
  bcast_S_S768x512 := by decide
  reducesTo_S768x512_S_d0_1 := by decide
  bcast_S_S512 := by decide
  reducesTo_S512_S_d0 := by decide
  bcast_S_S512x256 := by decide
  reducesTo_S512x256_S_d0_1 := by decide
  bcast_S_S256 := by decide
  reducesTo_S256_S_d0 := by decide
  bcast_S_S256x128 := by decide
  reducesTo_S256x128_S_d0_1 := by decide
  bcast_S_S128 := by decide
  reducesTo_S128_S_d0 := by decide
  bcast_S_S128x64 := by decide
  reducesTo_S128x64_S_d0_1 := by decide
  bcast_S_S64 := by decide
  reducesTo_S64_S_d0 := by decide
  bcast_S_S4x256x64 := by decide
  reducesTo_S4x256x64_S_d0_1_2 := by decide

end Cert.Pre_finite
-- ==== Proof.Kern.Reads.lean ====
/- What the kernel's input blocks hold at each of the two grid points: a window of 2048 rows of the input, and the
   weights, biases and codes whole. -/
module

public import proofs.«01_k».proof.Proof.Gen.KernelIdeal.Value
public import Idealize.ShloMosaic.Lib.Pipeline.ValueKit
public import Idealize.ShloMosaic.Lib.Claim
public import Idealize.ShloMosaic.Lib.Pointwise

@[expose] public section

set_option maxRecDepth 16384

noncomputable section

namespace Cert.KernelIdeal.Blk

open Cert.KernelIdeal Cert.KernelIdeal.Gen Cert.KernelIdeal.Value
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The windows that move with the grid point: the rows of the input and of the two large results. -/
theorem idxRows : ∀ t : Fin cfg0.N, win0_0.index t = ![t.val, 0] ∧ win0_18.index t = ![t.val, 0] ∧ win0_19.index t = ![t.val, 0] :=
  (by decide +kernel : ∀ t : Fin grid0.N, _)

/-- The encoder's windows stay. -/
theorem idxEnc : ∀ t : Fin cfg0.N, win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] :=
  (by decide +kernel : ∀ t : Fin grid0.N, _)

/-- The decoder's windows, the codes' and the loss's stay. -/
theorem idxDec : ∀ t : Fin cfg0.N, win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![0, 0]
    ∧ win0_17.index t = ![0, 0, 0] ∧ win0_20.index t = ![0, 0] :=
  (by decide +kernel : ∀ t : Fin grid0.N, _)

/-- A grid point is one of two. -/
theorem lt2 (t : Fin cfg0.N) : t.val < 2 := lt_of_lt_of_eq t.isLt (show cfg0.N = 2 from N_0)

/-- The row of the whole array a block's row stands for. -/
def at2048 (t : Fin cfg0.N) (i : Fin 2048) : Fin 4096 := ⟨t.val * 2048 + i.val, by have := lt2 t; omega⟩

variable (c : Dev nD) (t : Fin cfg0.N)

/-- The input's block holds its 2048 rows. -/
theorem iblk0 (i : Fin 2048) (j : Fin 768) :
    (iblk m c 0 t : Vec F S2048x768 .f32) (ix2 i j) = m ((c : Thread nD τ).loc main_arg0) (ix2 (at2048 t i) j) := by
  blk_ext! [iblk, V, idxRows t, at2048]
theorem iblk1 : iblk m c 1 t = m ((c : Thread nD τ).loc main_arg1) := by blk_ext! [iblk, V, idxEnc t]
theorem iblk3 : iblk m c 3 t = m ((c : Thread nD τ).loc main_arg3) := by blk_ext! [iblk, V, idxEnc t]
theorem iblk5 : iblk m c 5 t = m ((c : Thread nD τ).loc main_arg5) := by blk_ext! [iblk, V, idxEnc t]
theorem iblk7 : iblk m c 7 t = m ((c : Thread nD τ).loc main_arg7) := by blk_ext! [iblk, V, idxEnc t]
theorem iblk9 : iblk m c 9 t = m ((c : Thread nD τ).loc main_arg9) := by blk_ext! [iblk, V, idxDec t]
theorem iblk11 : iblk m c 11 t = m ((c : Thread nD τ).loc main_arg11) := by blk_ext! [iblk, V, idxDec t]
theorem iblk13 : iblk m c 13 t = m ((c : Thread nD τ).loc main_arg13) := by blk_ext! [iblk, V, idxDec t]
theorem iblk15 : iblk m c 15 t = m ((c : Thread nD τ).loc main_arg15) := by blk_ext! [iblk, V, idxDec t]
theorem iblk17 : iblk m c 17 t = m ((c : Thread nD τ).loc main_arg17) := by blk_ext! [iblk, V, idxDec t]
theorem iblk2 (j : Fin 512) : (iblk m c 2 t : Vec F S1x512 .f32) (ix2 0 j) = m ((c : Thread nD τ).loc main_arg2) (ix1 j) := by
  blk_ext! [iblk, V, idxEnc t]
theorem iblk4 (j : Fin 256) : (iblk m c 4 t : Vec F S1x256 .f32) (ix2 0 j) = m ((c : Thread nD τ).loc main_arg4) (ix1 j) := by
  blk_ext! [iblk, V, idxEnc t]
theorem iblk6 (j : Fin 128) : (iblk m c 6 t : Vec F S1x128 .f32) (ix2 0 j) = m ((c : Thread nD τ).loc main_arg6) (ix1 j) := by
  blk_ext! [iblk, V, idxEnc t]
theorem iblk8 (j : Fin 64) : (iblk m c 8 t : Vec F S1x64 .f32) (ix2 0 j) = m ((c : Thread nD τ).loc main_arg8) (ix1 j) := by
  blk_ext! [iblk, V, idxEnc t]
theorem iblk10 (j : Fin 128) : (iblk m c 10 t : Vec F S1x128 .f32) (ix2 0 j) = m ((c : Thread nD τ).loc main_arg10) (ix1 j) := by
  blk_ext! [iblk, V, idxDec t]
theorem iblk12 (j : Fin 256) : (iblk m c 12 t : Vec F S1x256 .f32) (ix2 0 j) = m ((c : Thread nD τ).loc main_arg12) (ix1 j) := by
  blk_ext! [iblk, V, idxDec t]
theorem iblk14 (j : Fin 512) : (iblk m c 14 t : Vec F S1x512 .f32) (ix2 0 j) = m ((c : Thread nD τ).loc main_arg14) (ix1 j) := by
  blk_ext! [iblk, V, idxDec t]
theorem iblk16 (j : Fin 768) : (iblk m c 16 t : Vec F S1x768 .f32) (ix2 0 j) = m ((c : Thread nD τ).loc main_arg16) (ix1 j) := by
  blk_ext! [iblk, V, idxDec t]

end Cert.KernelIdeal.Blk

end
-- ==== Proof.Kern.Terms.lean ====
/- What the kernel computes on one block of 2048 rows, as functions of arrays: its encoder, one quantisation stage on a
   quarter of 512 rows in its parts, the table of indices of a quarter, the running sum of squares, and its decoder. Each
   is the composition of the printed operations, said once and used for all four quarters and all four stages. -/
module

public import proofs.«01_k».proof.Proof.Gen.KernelIdeal.Skeleton
public import Idealize.ShloMosaic.Lib.Pipeline.ValueKit

@[expose] public section

set_option maxRecDepth 16384

noncomputable section

namespace Cert.KernelIdeal.Blk

open Cert.KernelIdeal Cert.KernelIdeal.Gen Idealize.ShloMosaic Idealize.ShloMosaic.TcCoe Idealize.SL.Sem

variable {F : FTy → Type} [FloatOps F]

/-- A bias on 512 features followed by the maximum with zero. -/
def lay512 (x : FVec F S2048x512 .f32) (b : FVec F S1x512 .f32) : FVec F S2048x512 .f32 :=
  maximumf (addf x (broadcastTo S2048x512 (shapeCast S1x512 b shapeCasts_S1x512_S1x512) broadcasts_S1x512_S2048x512))
    (broadcast S2048x512 (Scalar.ofBits .f32 0x00000000#32))

/-- A bias on 256 features followed by the maximum with zero. -/
def lay256 (x : FVec F S2048x256 .f32) (b : FVec F S1x256 .f32) : FVec F S2048x256 .f32 :=
  maximumf (addf x (broadcastTo S2048x256 (shapeCast S1x256 b shapeCasts_S1x256_S1x256) broadcasts_S1x256_S2048x256))
    (broadcast S2048x256 (Scalar.ofBits .f32 0x00000000#32))

/-- A bias on 128 features followed by the maximum with zero. -/
def lay128 (x : FVec F S2048x128 .f32) (b : FVec F S1x128 .f32) : FVec F S2048x128 .f32 :=
  maximumf (addf x (broadcastTo S2048x128 (shapeCast S1x128 b shapeCasts_S1x128_S1x128) broadcasts_S1x128_S2048x128))
    (broadcast S2048x128 (Scalar.ofBits .f32 0x00000000#32))

/-- The encoder on a block. -/
def enc (x : FVec F S2048x768 .f32) (w1 : FVec F S768x512 .f32) (b1 : FVec F S1x512 .f32) (w2 : FVec F S512x256 .f32)
    (b2 : FVec F S1x256 .f32) (w3 : FVec F S256x128 .f32) (b3 : FVec F S1x128 .f32) (w4 : FVec F S128x64 .f32)
    (b4 : FVec F S1x64 .f32) : FVec F S2048x64 .f32 :=
  addf (matmul dot_S2048x128_S128x64_S2048x64_1_0_0_1_n_n none
    (lay128 (matmul dot_S2048x256_S256x128_S2048x128_1_0_0_1_n_n none
      (lay256 (matmul dot_S2048x512_S512x256_S2048x256_1_0_0_1_n_n none
        (lay512 (matmul dot_S2048x768_S768x512_S2048x512_1_0_0_1_n_n none x w1 (constant S2048x512 .f32 0x00000000#32)) b1)
        w2 (constant S2048x256 .f32 0x00000000#32)) b2) w3 (constant S2048x128 .f32 0x00000000#32)) b3) w4
      (constant S2048x64 .f32 0x00000000#32))
    (broadcastTo S2048x64 (shapeCast S1x64 b4 shapeCasts_S1x64_S1x64) broadcasts_S1x64_S2048x64)

/-- The decoder on a block. -/
def dec (z : FVec F S2048x64 .f32) (w1 : FVec F S64x128 .f32) (b1 : FVec F S1x128 .f32) (w2 : FVec F S128x256 .f32)
    (b2 : FVec F S1x256 .f32) (w3 : FVec F S256x512 .f32) (b3 : FVec F S1x512 .f32) (w4 : FVec F S512x768 .f32)
    (b4 : FVec F S1x768 .f32) : FVec F S2048x768 .f32 :=
  addf (matmul dot_S2048x512_S512x768_S2048x768_1_0_0_1_n_n none
    (lay512 (matmul dot_S2048x256_S256x512_S2048x512_1_0_0_1_n_n none
      (lay256 (matmul dot_S2048x128_S128x256_S2048x256_1_0_0_1_n_n none
        (lay128 (matmul dot_S2048x64_S64x128_S2048x128_1_0_0_1_n_n none z w1 (constant S2048x128 .f32 0x00000000#32)) b1)
        w2 (constant S2048x256 .f32 0x00000000#32)) b2) w3 (constant S2048x512 .f32 0x00000000#32)) b3) w4
      (constant S2048x768 .f32 0x00000000#32))
    (broadcastTo S2048x768 (shapeCast S1x768 b4 shapeCasts_S1x768_S1x768) broadcasts_S1x768_S2048x768)

/-- The codes of one stage, read from the whole codebook: stage `k`'s at offset `k`. -/
def codes (C : FVec F S4x256x64 .f32) (off : Fin 3 → ℕ) (inb : ∀ a, off a + S1x256x64.size a ≤ S4x256x64.size a) : FVec F S256x64 .f32 :=
  shapeCast S256x64 (View.ld (Val := Elt F) (e' := .f32) C (Rect.unit (s := S4x256x64) off S1x256x64.size inb)) shapeCasts_S1x256x64_S256x64

/-- The codes of the first stage. -/
def cb0 (C : FVec F S4x256x64 .f32) : FVec F S256x64 .f32 := codes C ![0, 0, 0] inb_S4x256x64_S1x256x64_0_0_0
/-- The codes of the second stage. -/
def cb1 (C : FVec F S4x256x64 .f32) : FVec F S256x64 .f32 := codes C ![1, 0, 0] inb_S4x256x64_S1x256x64_1_0_0
/-- The codes of the third stage. -/
def cb2 (C : FVec F S4x256x64 .f32) : FVec F S256x64 .f32 := codes C ![2, 0, 0] inb_S4x256x64_S1x256x64_2_0_0
/-- The codes of the fourth stage. -/
def cb3 (C : FVec F S4x256x64 .f32) : FVec F S256x64 .f32 := codes C ![3, 0, 0] inb_S4x256x64_S1x256x64_3_0_0

/-- A quarter of the block's encoded rows. -/
def q0 (h : FVec F S2048x64 .f32) : FVec F S512x64 .f32 := extractStridedSlice S512x64 ![0, 0] h slices_S2048x64_o0_0_S512x64
/-- The second quarter. -/
def q1 (h : FVec F S2048x64 .f32) : FVec F S512x64 .f32 := extractStridedSlice S512x64 ![512, 0] h slices_S2048x64_o512_0_S512x64
/-- The third quarter. -/
def q2 (h : FVec F S2048x64 .f32) : FVec F S512x64 .f32 := extractStridedSlice S512x64 ![1024, 0] h slices_S2048x64_o1024_0_S512x64
/-- The fourth quarter. -/
def q3 (h : FVec F S2048x64 .f32) : FVec F S512x64 .f32 := extractStridedSlice S512x64 ![1536, 0] h slices_S2048x64_o1536_0_S512x64

/-- The column numbers, as floats. -/
def cols : FVec F S512x256 .f32 := sitofp .f32 (iota .tc S512x256 32 [1] iota_S512x256_d1_w32)

/-- The codes rounded to the short format and back: their high part. -/
def hi (x : FVec F S256x64 .f32) : FVec F S256x64 .f32 := extf .f32 (truncf .bf16 x bitsLt_bf16_f32) bitsLt_bf16_f32
/-- What the high part leaves. -/
def lo (x : FVec F S256x64 .f32) : FVec F S256x64 .f32 := subf x (hi x)

/-- The codes times minus two. -/
def neg2 (cb : FVec F S256x64 .f32) : FVec F S256x64 .f32 := mulf cb (broadcast S256x64 (Scalar.ofBits .f32 0xC0000000#32))

/-- The row of the codes' sums of squares. -/
def csq (cb : FVec F S256x64 .f32) : FVec F S1x256 .f32 :=
  addf (matmul dot_S1x64_S256x64_S1x256_1_1_0_0_n_n none (broadcast S1x64 (Scalar.ofBits .f32 0x3F800000#32)) (hi (mulf cb cb))
      (constant S1x256 .f32 0x00000000#32))
    (matmul dot_S1x64_S256x64_S1x256_1_1_0_0_n_n none (broadcast S1x64 (Scalar.ofBits .f32 0x3F800000#32)) (lo (mulf cb cb))
      (constant S1x256 .f32 0x00000000#32))

/-- The squared distances of a quarter's rows to the codes. -/
def dist (r : FVec F S512x64 .f32) (cb : FVec F S256x64 .f32) : FVec F S512x256 .f32 :=
  addf (addf (broadcastTo S512x256 (shapeCast S512x1 (multiReduction .add [1] S512 (mulf r r) 0x00000000#32 reduces_S512x64_S512 (.inl rfl) rfl)
        shapeCasts_S512_S512x1) broadcasts_S512x1_S512x256)
      (matmul dot_S512x64_S256x64_S512x256_1_1_0_0_n_n none r (neg2 cb) (constant S512x256 .f32 0x00000000#32)))
    (broadcastTo S512x256 (csq cb) broadcasts_S1x256_S512x256)

/-- The least of each row, as a column. -/
def least (d : FVec F S512x256 .f32) : FVec F S512x1 .f32 :=
  shapeCast S512x1 (multiReduction .minimumf [1] S512 d 0x7F800000#32 reduces_S512x256_S512 (.inl rfl) rfl) shapeCasts_S512_S512x1

/-- The column number where a row is at its least, 256 elsewhere. -/
def mask (d : FVec F S512x256 .f32) : FVec F S512x256 .f32 :=
  select (cmpf .ole d (broadcastTo S512x256 (least d) broadcasts_S512x1_S512x256)) cols (broadcast S512x256 (Scalar.ofBits .f32 0x43800000#32))

/-- The index of each row's nearest code. -/
def near (d : FVec F S512x256 .f32) : IVec S512x1 32 := fptosi 32 (least (mask d))

/-- One at each row's nearest code, zero elsewhere. -/
def oneHot (d : FVec F S512x256 .f32) : FVec F S512x256 .f32 :=
  sitofp .f32 (extui 32 (cmpf .oeq (mask d) (broadcastTo S512x256 (least (mask d)) broadcasts_S512x1_S512x256)) natLt_1_32)

/-- Each row's nearest code, by two products. -/
def pick (d : FVec F S512x256 .f32) (cb : FVec F S256x64 .f32) : FVec F S512x64 .f32 :=
  addf (matmul dot_S512x256_S256x64_S512x64_1_0_0_1_n_n none (oneHot d) (hi cb) (constant S512x64 .f32 0x00000000#32))
    (matmul dot_S512x256_S256x64_S512x64_1_0_0_1_n_n none (oneHot d) (lo cb) (constant S512x64 .f32 0x00000000#32))

/-- What a stage leaves of a quarter's rows. -/
def step (r : FVec F S512x64 .f32) (cb : FVec F S256x64 .f32) : FVec F S512x64 .f32 := subf r (pick (dist r cb) cb)

/-- The sum of the squares of a quarter. -/
def sq (r : FVec F S512x64 .f32) : F .f32 :=
  extractAt ![0, 0, 0] (shapeCast S1x1x1 (multiReduction .add [1, 2] S1 (shapeCast S1x512x64 (mulf r r) shapeCasts_S512x64_S1x512x64)
    0x00000000#32 reduces_S1x512x64_S1 (.inl rfl) rfl) shapeCasts_S1_S1x1x1) inpos_S1x1x1_p0_0_0

/-- What the first stage leaves. -/
def r1 (q : FVec F S512x64 .f32) (C : FVec F S4x256x64 .f32) : FVec F S512x64 .f32 := step q (cb0 C)
/-- What the second stage leaves. -/
def r2 (q : FVec F S512x64 .f32) (C : FVec F S4x256x64 .f32) : FVec F S512x64 .f32 := step (r1 q C) (cb1 C)
/-- What the third stage leaves. -/
def r3 (q : FVec F S512x64 .f32) (C : FVec F S4x256x64 .f32) : FVec F S512x64 .f32 := step (r2 q C) (cb2 C)
/-- What the fourth stage leaves. -/
def r4 (q : FVec F S512x64 .f32) (C : FVec F S4x256x64 .f32) : FVec F S512x64 .f32 := step (r3 q C) (cb3 C)

/-- The table of a quarter's indices, one column a stage. -/
def table (q : FVec F S512x64 .f32) (C : FVec F S4x256x64 .f32) : IVec S512x4 32 :=
  concatenate S512x4 1 [⟨S512x1, near (dist q (cb0 C))⟩, ⟨S512x1, near (dist (r1 q C) (cb1 C))⟩, ⟨S512x1, near (dist (r2 q C) (cb2 C))⟩,
    ⟨S512x1, near (dist (r3 q C) (cb3 C))⟩] concatenates_S512x1_S512x1_S512x1_S512x1_S512x4_d1

/-- A running sum carried over the four quarters of one stage. -/
def carry (s : F .f32) (f : FVec F S512x64 .f32 → FVec F S512x64 .f32) (h : FVec F S2048x64 .f32) : F .f32 :=
  Scalar.addf (Scalar.addf (Scalar.addf (Scalar.addf s (sq (f (q0 h)))) (sq (f (q1 h)))) (sq (f (q2 h)))) (sq (f (q3 h)))

/-- The sum of squares of the block over the four stages. -/
def total (h : FVec F S2048x64 .f32) (C : FVec F S4x256x64 .f32) : F .f32 :=
  carry (carry (carry (carry (Scalar.ofBits .f32 0x00000000#32) (r1 · C) h) (r2 · C) h) (r3 · C) h) (r4 · C) h

/-- The quantised rows of the block: what the four stages took away. -/
def xq (h : FVec F S2048x64 .f32) (C : FVec F S4x256x64 .f32) : FVec F S2048x64 .f32 :=
  concatenate S2048x64 0 [⟨S512x64, subf (q0 h) (r4 (q0 h) C)⟩, ⟨S512x64, subf (q1 h) (r4 (q1 h) C)⟩, ⟨S512x64, subf (q2 h) (r4 (q2 h) C)⟩,
    ⟨S512x64, subf (q3 h) (r4 (q3 h) C)⟩] concatenates_S512x64_S512x64_S512x64_S512x64_S2048x64_d0

/-- The running loss after a block: what was there, and the block's sum times the scale. -/
def bump (s t : F .f32) : F .f32 := Scalar.addf s (Scalar.mulf t (Scalar.ofBits .f32 0x38A00000#32))

end Cert.KernelIdeal.Blk

end
-- ==== Proof.Kern.Blocks.lean ====
/- What the kernel's three result windows hold after a grid point, as functions of the point's input blocks. -/
module

public import proofs.«01_k».proof.Proof.Gen.KernelIdeal.Value
public import proofs.«01_k».proof.Proof.Kern.Terms

@[expose] public section

set_option maxRecDepth 16384

noncomputable section

namespace Cert.KernelIdeal.Blk

open Cert.KernelIdeal Cert.KernelIdeal.Gen Cert.KernelIdeal.Value
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The encoded rows of a grid point's block. -/
def encB (c : Dev nD) (t : Fin cfg0.N) : FVec F S2048x64 .f32 :=
  enc (iblk m c 0 t) (iblk m c 1 t) (iblk m c 2 t) (iblk m c 3 t) (iblk m c 4 t) (iblk m c 5 t) (iblk m c 6 t) (iblk m c 7 t) (iblk m c 8 t)

/-- The decoded rows of a grid point's block. -/
def outB (c : Dev nD) (t : Fin cfg0.N) : FVec F S2048x768 .f32 :=
  dec (xq (encB m c t) (iblk m c 17 t)) (iblk m c 9 t) (iblk m c 10 t) (iblk m c 11 t) (iblk m c 12 t) (iblk m c 13 t) (iblk m c 14 t)
    (iblk m c 15 t) (iblk m c 16 t)

/-- The indices of a grid point's block, one table a quarter. -/
def idxB (c : Dev nD) (t : Fin cfg0.N) : Vec F S2048x4 .i32 :=
  View.canon (Val := Elt F) [⟨Rect.unit ![1536, 0] ![512, 4] inb_S2048x4_S512x4_1536_0, table (q3 (encB m c t)) (iblk m c 17 t)⟩,
      ⟨Rect.unit ![1024, 0] ![512, 4] inb_S2048x4_S512x4_1024_0, table (q2 (encB m c t)) (iblk m c 17 t)⟩,
      ⟨Rect.unit ![512, 0] ![512, 4] inb_S2048x4_S512x4_512_0, table (q1 (encB m c t)) (iblk m c 17 t)⟩,
      ⟨Rect.unit ![0, 0] ![512, 4] inb_S2048x4_S512x4_0_0, table (q0 (encB m c t)) (iblk m c 17 t)⟩]

/-- After a first point the loss window holds the point's sum, scaled and added to zero. -/
theorem o20A (c : Dev nD) (t : Fin cfg0.N) (h : t.val % 2 = 0) :
    (dats m 0 c).after 20 t = fun _ => bump (Scalar.ofBits .f32 0x00000000#32) (total (encB m c t) (iblk m c 17 t)) := by
  conv_lhs => rw [after0_20, outsAt0_A m c t h]
  frame_out
  rfl
/-- After a first point the output window holds the decoded rows. -/
theorem o18A (c : Dev nD) (t : Fin cfg0.N) (h : t.val % 2 = 0) : (dats m 0 c).after 18 t = outB m c t := by
  conv_lhs => rw [after0_18, outsAt0_A m c t h]
  frame_out
  rfl
/-- After a first point the index window holds the tables. -/
theorem o19A (c : Dev nD) (t : Fin cfg0.N) (h : t.val % 2 = 0) : (dats m 0 c).after 19 t = idxB m c t := by
  conv_lhs => rw [after0_19, outsAt0_A m c t h]
  frame_out
  rfl
/-- After a later point the output window holds the decoded rows. -/
theorem o18B (c : Dev nD) (t : Fin cfg0.N) (h : ¬ t.val % 2 = 0) : (dats m 0 c).after 18 t = outB m c t := by
  conv_lhs => rw [after0_18, outsAt0_B m c t h]
  frame_out
  rfl
/-- After a later point the index window holds the tables. -/
theorem o19B (c : Dev nD) (t : Fin cfg0.N) (h : ¬ t.val % 2 = 0) : (dats m 0 c).after 19 t = idxB m c t := by
  conv_lhs => rw [after0_19, outsAt0_B m c t h]
  frame_out
  rfl
/-- A one by one array has one index. -/
theorem idx1x1 (x y : S1x1.Idx) : x = y := funext fun a => by fin_cases a <;> exact Subsingleton.elim (α := Fin 1) _ _

/-- After a later point the loss window holds what the point before left and the point's sum, scaled. -/
theorem o20B (c : Dev nD) (t : Fin cfg0.N) (h : ¬ t.val % 2 = 0) :
    (dats m 0 c).after 20 t = fun _ => bump ((outsAt0 m c (t.val - 1) (by omega)).2.2 (ix2 0 0)) (total (encB m c t) (iblk m c 17 t)) := by
  conv_lhs => rw [after0_20, outsAt0_B m c t h]
  frame_out
  funext j
  show k0_pay129 _ _ = _
  refine congrArg₂ (fun t s => bump s t) ?_ ?_
  · rfl
  · exact congrArg (outsAt0 m c (t.val - 1) (by omega)).2.2 (idx1x1 _ _)

/-- After the last point the loss window holds the two points' scaled sums, added in turn to zero. -/
theorem o20 (c : Dev nD) (t : Fin cfg0.N) (s : Fin cfg0.N) (ht : t.val = 1) (hs : s.val = 0) :
    (dats m 0 c).after 20 t = fun _ => bump (bump (Scalar.ofBits .f32 0x00000000#32) (total (encB m c s) (iblk m c 17 s)))
      (total (encB m c t) (iblk m c 17 t)) := by
  rw [o20B m c t (by omega)]
  funext j
  refine congrArg (bump · (total (encB m c t) (iblk m c 17 t))) ?_
  have e : ∀ n hn, n = s.val → outsAt0 m c n hn = outsAt0 m c s.val s.isLt := by rintro _ _ rfl; rfl
  rw [e _ _ (by omega), ← after0_20]
  exact congrFun (o20A m c s (by omega)) (ix2 0 0)

/-- After any point the output window holds the decoded rows. -/
theorem o18 (c : Dev nD) (t : Fin cfg0.N) : (dats m 0 c).after 18 t = outB m c t :=
  (Decidable.em (t.val % 2 = 0)).elim (o18A m c t) (o18B m c t)
/-- After any point the index window holds the tables. -/
theorem o19 (c : Dev nD) (t : Fin cfg0.N) : (dats m 0 c).after 19 t = idxB m c t :=
  (Decidable.em (t.val % 2 = 0)).elim (o19A m c t) (o19B m c t)

end Cert.KernelIdeal.Blk

end
-- ==== Proof.Math.Real.lean ====
/- Extended reals that are real numbers: closed under the arithmetic of both programs, and the identities that hold of
   real numbers alone. -/
module

public import Idealize.ShloMosaic.PureOps.Ideal.Laws

@[expose] public section

noncomputable section

namespace Cert.Rvq

open Idealize.ShloMosaic

/-- The extended real is a real number. -/
def IsReal (x : EReal) : Prop := ∃ a : ℝ, x = (a : EReal)

theorem IsReal.coe (a : ℝ) : IsReal (a : EReal) := ⟨a, rfl⟩
theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.sum {ι : Type*} (s : Finset ι) {f : ι → EReal} (h : ∀ i, IsReal (f i)) : IsReal (∑ i ∈ s, f i) := by
  classical
  induction s using Finset.induction_on with
  | empty => exact IsReal.zero
  | insert a s ha ih => rw [Finset.sum_insert ha]; exact (h a).add ih

/-- A real number less itself is zero. -/
theorem IsReal.sub_self {x : EReal} (hx : IsReal x) : x - x = 0 := by
  obtain ⟨a, rfl⟩ := hx; rw [← EReal.coe_sub]; simp

/-- An extended real whose absolute value is below the top one is real. -/
theorem isReal_of_abs_lt {x : EReal} (h : Max.max x (-x) < ⊤) : IsReal x := by
  induction x with
  | bot => simp at h
  | top => simp at h
  | coe r => exact ⟨r, rfl⟩

/-- The sum of real numbers taken among the extended reals is their sum. -/
theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem neg2_word : Ideal.ofBits .f32 0xC0000000#32 = ((-2 : ℝ) : EReal) := by
  simp [Ideal.ofBits, Ideal.ieee]; norm_num; rw [← EReal.coe_mul, EReal.coe_eq_coe_iff]; norm_num
theorem two_word : Ideal.ofBits .f32 0x40000000#32 = ((2 : ℝ) : EReal) := by
  simp [Ideal.ofBits, Ideal.ieee]; norm_num; rw [← EReal.coe_mul, EReal.coe_eq_coe_iff]; norm_num
theorem top_word : Ideal.ofBits .f32 0x7F800000#32 = ⊤ := by
  simp [Ideal.ofBits, Ideal.ieee]
theorem w256 : Ideal.ofBits .f32 0x43800000#32 = ((256 : ℝ) : EReal) := by
  simp [Ideal.ofBits, Ideal.ieee]; norm_num; rw [← EReal.coe_mul, EReal.coe_eq_coe_iff]; norm_num
theorem w4096 : Ideal.ofBits .f32 0x45800000#32 = ((4096 : ℝ) : EReal) := by
  simp [Ideal.ofBits, Ideal.ieee]; norm_num; rw [← EReal.coe_mul, EReal.coe_eq_coe_iff]; norm_num
theorem w4 : Ideal.ofBits .f32 0x40800000#32 = ((4 : ℝ) : EReal) := by
  simp [Ideal.ofBits, Ideal.ieee]; norm_num; rw [← EReal.coe_mul, EReal.coe_eq_coe_iff]; norm_num
theorem quarter_word : Ideal.ofBits .f32 0x3E800000#32 = ((1 / 4 : ℝ) : EReal) := by
  simp [Ideal.ofBits, Ideal.ieee]; norm_num; rw [← EReal.coe_mul, EReal.coe_eq_coe_iff]; norm_num
theorem scale_word : Ideal.ofBits .f32 0x38A00000#32 = ((5 / 65536 : ℝ) : EReal) := by
  simp [Ideal.ofBits, Ideal.ieee]; norm_num; rw [← EReal.coe_mul, EReal.coe_eq_coe_iff]; norm_num

/-- THE DISTANCE. The kernel's form of a squared distance (a product with the code times minus two, and the code's square
    added in two parts) and the reference's (twice the product subtracted) agree on real rows and codes. -/
theorem dist_eq {n : ℕ} (r c : Fin n → EReal) (hr : ∀ x, IsReal (r x)) (hc : ∀ x, IsReal (c x)) :
    ∑ x, r x * r x + ∑ x, r x * (c x * Ideal.ofBits .f32 0xC0000000#32) + (∑ x, c x * c x + ∑ x, (c x * c x - c x * c x))
      = ∑ x, r x * r x - Ideal.ofBits .f32 0x40000000#32 * ∑ x, r x * c x + ∑ x, c x * c x := by
  choose R hR using hr
  choose C hC using hc
  obtain rfl : r = fun x => (R x : EReal) := funext hR
  obtain rfl : c = fun x => (C x : EReal) := funext hC
  rw [neg2_word, two_word]
  simp only [← EReal.coe_mul, ← EReal.coe_sub, ← coe_sum, ← EReal.coe_add, EReal.coe_eq_coe_iff]
  simp only [sub_self, Finset.sum_const_zero, ← mul_assoc, ← Finset.sum_mul]
  ring

/-- WHAT THE FOUR STAGES TOOK. The encoded row less what is left of it is the sum of the four codes, which is also the
    encoded row plus the difference of that sum and it. -/
theorem taken_eq {h a b c d : EReal} (hh : IsReal h) (ha : IsReal a) (hb : IsReal b) (hc : IsReal c) (hd : IsReal d) :
    h - (h - a - b - c - d) = h + (0 + a + b + c + d - h) := by
  obtain ⟨h, rfl⟩ := hh; obtain ⟨a, rfl⟩ := ha; obtain ⟨b, rfl⟩ := hb; obtain ⟨c, rfl⟩ := hc; obtain ⟨d, rfl⟩ := hd
  rw [← EReal.coe_zero]
  simp only [← EReal.coe_sub, ← EReal.coe_add, EReal.coe_eq_coe_iff]
  ring

/-- The square of a difference does not see the order. -/
theorem sq_sub_comm {a b : EReal} (ha : IsReal a) (hb : IsReal b) : (a - b) * (a - b) = (b - a) * (b - a) := by
  obtain ⟨a, rfl⟩ := ha; obtain ⟨b, rfl⟩ := hb
  simp only [← EReal.coe_sub, ← EReal.coe_mul, EReal.coe_eq_coe_iff]
  ring

/-- THE LOSS. The kernel's scaled sums of the two blocks and the reference's mean over the four stages of a mean square
    and a quarter of it agree, the sums of the two blocks making up the four stages' sums. -/
theorem loss_eq {p q a b c d : EReal} (hp : IsReal p) (hq : IsReal q) (ha : IsReal a) (hb : IsReal b) (hc : IsReal c) (hd : IsReal d)
    (h : p + q = a + b + c + d) :
    0 + p * Ideal.ofBits .f32 0x38A00000#32 + q * Ideal.ofBits .f32 0x38A00000#32
      = Ideal.div ((Ideal.div a (Ideal.ofBits .f32 0x45800000#32) + Ideal.ofBits .f32 0x3E800000#32 * Ideal.div a (Ideal.ofBits .f32 0x45800000#32))
          + (Ideal.div b (Ideal.ofBits .f32 0x45800000#32) + Ideal.ofBits .f32 0x3E800000#32 * Ideal.div b (Ideal.ofBits .f32 0x45800000#32))
          + (Ideal.div c (Ideal.ofBits .f32 0x45800000#32) + Ideal.ofBits .f32 0x3E800000#32 * Ideal.div c (Ideal.ofBits .f32 0x45800000#32))
          + (Ideal.div d (Ideal.ofBits .f32 0x45800000#32) + Ideal.ofBits .f32 0x3E800000#32 * Ideal.div d (Ideal.ofBits .f32 0x45800000#32)))
        (Ideal.ofBits .f32 0x40800000#32) := by
  obtain ⟨p, rfl⟩ := hp; obtain ⟨q, rfl⟩ := hq
  obtain ⟨a, rfl⟩ := ha; obtain ⟨b, rfl⟩ := hb; obtain ⟨c, rfl⟩ := hc; obtain ⟨d, rfl⟩ := hd
  rw [scale_word, w4096, quarter_word, w4]
  simp only [← EReal.coe_add, EReal.coe_eq_coe_iff] at h
  have e : ∀ x y : ℝ, y ≠ 0 → Ideal.div (x : EReal) (y : EReal) = ((x / y : ℝ) : EReal) := fun x y hy => by
    simp [Ideal.div, hy, div_eq_mul_inv, EReal.coe_inv]
  rw [e a _ (by norm_num), e b _ (by norm_num), e c _ (by norm_num), e d _ (by norm_num), ← EReal.coe_zero]
  simp only [← EReal.coe_mul, ← EReal.coe_add]
  rw [e _ _ (by norm_num), EReal.coe_eq_coe_iff]
  linear_combination (5 / 65536) * h

end Cert.Rvq

end
-- ==== Proof.Value.Layers.lean ====
/- The encoder and the decoder, kernel against reference: a block's rows go through the same layers as the reference's
   rows they stand for; the encoder of real numbers is real. -/
module

public import proofs.«01_k».proof.Proof.Kern.Terms
public import proofs.«01_k».proof.Proof.Ref.Terms
public import proofs.«01_k».proof.Proof.Math.Real
public import Idealize.ShloMosaic.Lib.Pointwise

@[expose] public section

set_option maxRecDepth 16384

noncomputable section

namespace Cert.Rvq

open Idealize.ShloMosaic
open ReferenceIdeal.Ref (Arr)

/-- THE ENCODER of a block's row is the reference's of the row it stands for. -/
theorem enc_eq (e : Fin 2048 → Fin 4096) {x : FVec Ideal KernelIdeal.S2048x768 .f32} {X : Arr Ideal ReferenceIdeal.S4096x768 .f32}
    (hx : ∀ i j, x (ix2 i j) = X (ix2 (e i) j)) (w1 : Arr Ideal ReferenceIdeal.S768x512 .f32) (w2 : Arr Ideal ReferenceIdeal.S512x256 .f32)
    (w3 : Arr Ideal ReferenceIdeal.S256x128 .f32) (w4 : Arr Ideal ReferenceIdeal.S128x64 .f32)
    {b1 : FVec Ideal KernelIdeal.S1x512 .f32} {B1 : Arr Ideal ReferenceIdeal.S512 .f32} (h1 : ∀ j, b1 (ix2 0 j) = B1 (ix1 j))
    {b2 : FVec Ideal KernelIdeal.S1x256 .f32} {B2 : Arr Ideal ReferenceIdeal.S256 .f32} (h2 : ∀ j, b2 (ix2 0 j) = B2 (ix1 j))
    {b3 : FVec Ideal KernelIdeal.S1x128 .f32} {B3 : Arr Ideal ReferenceIdeal.S128 .f32} (h3 : ∀ j, b3 (ix2 0 j) = B3 (ix1 j))
    {b4 : FVec Ideal KernelIdeal.S1x64 .f32} {B4 : Arr Ideal ReferenceIdeal.S64 .f32} (h4 : ∀ j, b4 (ix2 0 j) = B4 (ix1 j))
    (i : Fin 2048) (k : Fin 64) :
    KernelIdeal.Blk.enc x w1 b1 w2 b2 w3 b3 w4 b4 (ix2 i k) = ReferenceIdeal.Ref.enc X w1 B1 w2 B2 w3 B3 w4 B4 (ix2 (e i) k) := by
  pointwise [KernelIdeal.Blk.enc, KernelIdeal.Blk.lay512, KernelIdeal.Blk.lay256, KernelIdeal.Blk.lay128,
    ReferenceIdeal.Ref.enc, ReferenceIdeal.Ref.lay512, ReferenceIdeal.Ref.lay256, ReferenceIdeal.Ref.lay128]
  simp only [hx, h1, h2, h3, h4]

/-- THE DECODER of a block's row is the reference's of the row it stands for. -/
theorem dec_eq (e : Fin 2048 → Fin 4096) {x : FVec Ideal KernelIdeal.S2048x64 .f32} {X : Arr Ideal ReferenceIdeal.S4096x64 .f32}
    (hx : ∀ i j, x (ix2 i j) = X (ix2 (e i) j)) (w1 : Arr Ideal ReferenceIdeal.S64x128 .f32) (w2 : Arr Ideal ReferenceIdeal.S128x256 .f32)
    (w3 : Arr Ideal ReferenceIdeal.S256x512 .f32) (w4 : Arr Ideal ReferenceIdeal.S512x768 .f32)
    {b1 : FVec Ideal KernelIdeal.S1x128 .f32} {B1 : Arr Ideal ReferenceIdeal.S128 .f32} (h1 : ∀ j, b1 (ix2 0 j) = B1 (ix1 j))
    {b2 : FVec Ideal KernelIdeal.S1x256 .f32} {B2 : Arr Ideal ReferenceIdeal.S256 .f32} (h2 : ∀ j, b2 (ix2 0 j) = B2 (ix1 j))
    {b3 : FVec Ideal KernelIdeal.S1x512 .f32} {B3 : Arr Ideal ReferenceIdeal.S512 .f32} (h3 : ∀ j, b3 (ix2 0 j) = B3 (ix1 j))
    {b4 : FVec Ideal KernelIdeal.S1x768 .f32} {B4 : Arr Ideal ReferenceIdeal.S768 .f32} (h4 : ∀ j, b4 (ix2 0 j) = B4 (ix1 j))
    (i : Fin 2048) (k : Fin 768) :
    KernelIdeal.Blk.dec x w1 b1 w2 b2 w3 b3 w4 b4 (ix2 i k) = ReferenceIdeal.Ref.dec X w1 B1 w2 B2 w3 B3 w4 B4 (ix2 (e i) k) := by
  pointwise [KernelIdeal.Blk.dec, KernelIdeal.Blk.lay512, KernelIdeal.Blk.lay256, KernelIdeal.Blk.lay128,
    ReferenceIdeal.Ref.dec, ReferenceIdeal.Ref.lay512, ReferenceIdeal.Ref.lay256, ReferenceIdeal.Ref.lay128]
  simp only [hx, h1, h2, h3, h4]

/-- The encoder of real numbers is real. -/
theorem enc_real {X : Arr Ideal ReferenceIdeal.S4096x768 .f32} {w1 : Arr Ideal ReferenceIdeal.S768x512 .f32} {w2 : Arr Ideal ReferenceIdeal.S512x256 .f32}
    {w3 : Arr Ideal ReferenceIdeal.S256x128 .f32} {w4 : Arr Ideal ReferenceIdeal.S128x64 .f32} {B1 : Arr Ideal ReferenceIdeal.S512 .f32}
    {B2 : Arr Ideal ReferenceIdeal.S256 .f32} {B3 : Arr Ideal ReferenceIdeal.S128 .f32} {B4 : Arr Ideal ReferenceIdeal.S64 .f32}
    (hX : ∀ j, IsReal (X j)) (h1 : ∀ j, IsReal (w1 j)) (k1 : ∀ j, IsReal (B1 j)) (h2 : ∀ j, IsReal (w2 j)) (k2 : ∀ j, IsReal (B2 j))
    (h3 : ∀ j, IsReal (w3 j)) (k3 : ∀ j, IsReal (B3 j)) (h4 : ∀ j, IsReal (w4 j)) (k4 : ∀ j, IsReal (B4 j)) (i : Fin 4096) (k : Fin 64) :
    IsReal (ReferenceIdeal.Ref.enc (F := Ideal) X w1 B1 w2 B2 w3 B3 w4 B4 (ix2 i k)) := by
  pointwise [ReferenceIdeal.Ref.enc, ReferenceIdeal.Ref.lay512, ReferenceIdeal.Ref.lay256, ReferenceIdeal.Ref.lay128]
  exact (IsReal.sum _ fun _ => (IsReal.max ((IsReal.sum _ fun _ => (IsReal.max ((IsReal.sum _ fun _ =>
    (IsReal.max ((IsReal.sum _ fun _ => (hX _).mul (h1 _)).add (k1 _)) IsReal.zero).mul (h2 _)).add (k2 _)) IsReal.zero).mul (h3 _)).add (k3 _))
      IsReal.zero).mul (h4 _)).add (k4 _)

end Cert.Rvq

end
-- ==== Proof.Math.First.lean ====
/- The first of the least entries of a row of 256: it exists, it is one alone, and the kernel's way to it (the least, then
   the least column number where the row is at its least) reaches it. -/
module

public import proofs.«01_k».proof.Proof.Math.Real

@[expose] public section

noncomputable section

namespace Cert.Rvq

open Idealize.ShloMosaic

/-- Column `k` is the first at which the row is at its least. -/
structure IsFirst (f : Fin 256 → EReal) (k : Fin 256) : Prop where
  /-- No entry is below it. -/
  le : ∀ j, f k ≤ f j
  /-- Every earlier entry is above it. -/
  lt : ∀ j, j < k → f k < f j

/-- There is a first least entry. -/
theorem exists_first (f : Fin 256 → EReal) : ∃ k, IsFirst f k := by
  obtain ⟨j, -, hj⟩ := Finset.exists_min_image Finset.univ f ⟨0, Finset.mem_univ 0⟩
  have hne : (Finset.univ.filter fun x => f x ≤ f j).Nonempty := ⟨j, by simp⟩
  obtain ⟨k, hk, hmin⟩ := Finset.exists_min_image _ id hne
  simp only [Finset.mem_filter, Finset.mem_univ, true_and, id] at hk hmin
  refine ⟨k, fun i => hk.trans (hj i (Finset.mem_univ i)), fun i hi => lt_of_not_ge fun h => ?_⟩
  exact absurd (hmin i (h.trans hk)) (not_le.mpr hi)

/-- There is one only. -/
theorem IsFirst.unique {f : Fin 256 → EReal} {k j : Fin 256} (hk : IsFirst f k) (hj : IsFirst f j) : k = j := by
  rcases lt_trichotomy k j with h | h | h
  · exact absurd (hk.le j) (not_le.mpr (hj.lt k h))
  · exact h
  · exact absurd (hj.le k) (not_le.mpr (hk.lt j h))

/-- The least of the row is the entry there. -/
theorem IsFirst.fold {f : Fin 256 → EReal} {k : Fin 256} (hk : IsFirst f k) : Finset.univ.fold min ⊤ f = f k :=
  le_antisymm ((Finset.fold_min_le _).mpr (Or.inr ⟨k, Finset.mem_univ k, le_rfl⟩)) ((Finset.le_fold_min _).mpr ⟨le_top, fun j _ => hk.le j⟩)

/-- The column number where the row is at its least, 256 elsewhere. -/
def maskOf (f : Fin 256 → EReal) (x : Fin 256) : EReal :=
  if f x ≤ Finset.univ.fold min ⊤ f then ((x.val : ℝ) : EReal) else ((256 : ℝ) : EReal)

/-- The mask at the first least entry is its column number. -/
theorem IsFirst.mask_self {f : Fin 256 → EReal} {k : Fin 256} (hk : IsFirst f k) : maskOf f k = ((k.val : ℝ) : EReal) := by
  rw [maskOf, hk.fold, if_pos le_rfl]

/-- The mask is nowhere below that number. -/
theorem IsFirst.mask_ge {f : Fin 256 → EReal} {k : Fin 256} (hk : IsFirst f k) (x : Fin 256) : ((k.val : ℝ) : EReal) ≤ maskOf f x := by
  rw [maskOf, hk.fold]
  split
  next h =>
    rw [EReal.coe_le_coe_iff, Nat.cast_le]
    exact not_lt.mp fun hx => absurd h (not_le.mpr (hk.lt x hx))
  next h =>
    rw [EReal.coe_le_coe_iff]
    exact_mod_cast k.isLt.le

/-- So the least of the mask is the first least entry's column number. -/
theorem IsFirst.mask_fold {f : Fin 256 → EReal} {k : Fin 256} (hk : IsFirst f k) :
    Finset.univ.fold min ⊤ (fun x => maskOf f x) = ((k.val : ℝ) : EReal) :=
  le_antisymm ((Finset.fold_min_le _).mpr (Or.inr ⟨k, Finset.mem_univ k, hk.mask_self.le⟩))
    ((Finset.le_fold_min _).mpr ⟨le_top, fun j _ => hk.mask_ge j⟩)

/-- And only there is the mask that number. -/
theorem IsFirst.mask_eq_iff {f : Fin 256 → EReal} {k : Fin 256} (hk : IsFirst f k) (x : Fin 256) :
    maskOf f x = ((k.val : ℝ) : EReal) ↔ x = k := by
  refine ⟨fun h => ?_, fun h => h ▸ hk.mask_self⟩
  rw [maskOf] at h
  split at h
  · rw [EReal.coe_eq_coe_iff, Nat.cast_inj] at h
    exact Fin.ext h
  · rw [EReal.coe_eq_coe_iff] at h
    have : (256 : ℕ) = k.val := by exact_mod_cast h
    omega

/-- A column number read signed is itself. -/
theorem toInt_col (k : Fin 256) : (BitVec.ofNat 32 k.val).toInt = (k.val : ℤ) := by
  have := k.isLt
  rw [BitVec.toInt_eq_toNat_of_lt (by rw [BitVec.toNat_ofNat]; omega), BitVec.toNat_ofNat]
  omega

/-- A column number converted to an integer is itself. -/
theorem fptosi_col (k : Fin 256) : Ideal.fptosi 32 ((k.val : ℝ) : EReal) = BitVec.ofNat 32 k.val := by
  have hk := k.isLt
  rw [Ideal.fptosi, Ideal.toIntClamped_coe, if_pos (Nat.cast_nonneg _), Int.floor_natCast]
  have : max (-((2 ^ (32 - 1) : ℕ) : ℤ)) (min (((2 ^ (32 - 1) : ℕ) : ℤ) - 1) (k.val : ℤ)) = (k.val : ℤ) := by
    norm_num
    omega
  rw [this]
  exact BitVec.ofInt_natCast 32 k.val

/-- A condition's bit as a number: one or zero. -/
theorem bit_num (p : Prop) [Decidable p] :
    (((((BitVec.ofBool (decide p)).setWidth 32).toInt : ℤ) : ℝ) : EReal) = if p then 1 else 0 := by
  by_cases h : p <;> simp [h]

/-- A row of zeros with a single one picks one entry of the other factor; the second product, over differences of equal
    real numbers, adds nothing. -/
theorem pick_eq (k : Fin 256) (c : Fin 256 → EReal) (hc : ∀ x, IsReal (c x)) :
    ∑ x, (if x = k then (1 : EReal) else 0) * c x + ∑ x, (if x = k then (1 : EReal) else 0) * (c x - c x) = c k := by
  simp only [fun x => (hc x).sub_self, mul_zero, Finset.sum_const_zero, add_zero, ite_mul, one_mul, zero_mul,
    Finset.sum_ite_eq', Finset.mem_univ, if_true]

end Cert.Rvq

end
-- ==== Proof.Kern.Step.lean ====
/- One quantisation stage on a quarter, in real numbers: where the first least distance of a row is at code `k`, the index
   is `k` and what is left of the row is the row less that code. -/
module

public import proofs.«01_k».proof.Proof.Kern.Terms
public import proofs.«01_k».proof.Proof.Math.First
public import Idealize.ShloMosaic.Lib.Pointwise

@[expose] public section

set_option maxRecDepth 16384

noncomputable section

namespace Cert.KernelIdeal.Blk

open Cert.KernelIdeal Cert.KernelIdeal.Gen Idealize.ShloMosaic Idealize.ShloMosaic.TcCoe Idealize.SL.Sem Cert.Rvq

/-- The mask of a row is the column number at the row's least, 256 elsewhere. -/
theorem mask_at (d : FVec Ideal S512x256 .f32) (i : Fin 512) (x : Fin 256) : mask d (ix2 i x) = maskOf (fun y => d (ix2 i y)) x := by
  have hx : (FloatOps.sitofp (F := Ideal) .f32 (BitVec.ofNat 32 x.val) : EReal) = ((x.val : ℝ) : EReal) := by
    show ((((BitVec.ofNat 32 x.val).toInt : ℤ) : ℝ) : EReal) = _
    rw [toInt_col]
    rfl
  pointwise [mask, least, cols]
  rw [maskOf, hx, top_word, w256]

variable (r : FVec Ideal S512x64 .f32) (cb : FVec Ideal S256x64 .f32) (i : Fin 512) (k : Fin 256)

/-- The index of a row's nearest code. -/
theorem near_eq (d : FVec Ideal S512x256 .f32) (hk : IsFirst (fun x => d (ix2 i x)) k) : near d (ix2 i 0) = BitVec.ofNat 32 k.val := by
  pointwise [near, least]
  simp only [mask_at]
  rw [top_word, hk.mask_fold]
  exact fptosi_col k

/-- One at the row's nearest code, zero elsewhere. -/
theorem oneHot_eq (d : FVec Ideal S512x256 .f32) (hk : IsFirst (fun x => d (ix2 i x)) k) (x : Fin 256) :
    oneHot d (ix2 i x) = if x = k then (1 : EReal) else 0 := by
  pointwise [oneHot, least]
  simp only [mask_at]
  rw [top_word, hk.mask_fold]
  refine (bit_num _).trans ?_
  simp only [hk.mask_eq_iff]

/-- The chosen code of a row. -/
theorem pick_at (d : FVec Ideal S512x256 .f32) (hk : IsFirst (fun x => d (ix2 i x)) k) (hc : ∀ x y, IsReal (cb (ix2 x y))) (y : Fin 64) :
    pick d cb (ix2 i y) = cb (ix2 k y) := by
  pointwise [pick, hi, lo]
  simp only [oneHot_eq i k d hk]
  exact pick_eq k (fun x => cb (ix2 x y)) fun x => hc x y

/-- What a stage leaves of a row. -/
theorem step_at (hk : IsFirst (fun x => dist r cb (ix2 i x)) k) (hc : ∀ x y, IsReal (cb (ix2 x y))) (y : Fin 64) :
    step r cb (ix2 i y) = r (ix2 i y) - cb (ix2 k y) := by
  rw [← pick_at cb i k (dist r cb) hk hc y]
  rfl

/-- The squared distance of a row to a code, as the reference forms it. -/
theorem dist_at (x : Fin 256) (hr : ∀ y, IsReal (r (ix2 i y))) (hc : ∀ y, IsReal (cb (ix2 x y))) :
    dist r cb (ix2 i x) = ∑ y, r (ix2 i y) * r (ix2 i y) - Ideal.ofBits .f32 0x40000000#32 * ∑ y, r (ix2 i y) * cb (ix2 x y)
      + ∑ y, cb (ix2 x y) * cb (ix2 x y) := by
  pointwise [dist, csq, hi, lo, neg2]
  exact dist_eq (fun y => r (ix2 i y)) (fun y => cb (ix2 x y)) hr hc

end Cert.KernelIdeal.Blk

end
-- ==== Proof.Ref.Argmin.lean ====
/- The reference's index of a row's nearest code: it is the first at which the row is at its least, and the row taken by
   that index is that code. -/
module

public import proofs.«01_k».proof.Proof.Ref.Terms
public import proofs.«01_k».proof.Proof.Math.First
public import Idealize.ShloMosaic.Lib.Pointwise
public import Idealize.ShloMosaic.Lib.Routing.Ops

@[expose] public section

set_option maxRecDepth 16384

noncomputable section

namespace Cert.ReferenceIdeal.Ref

open Cert.ReferenceIdeal Cert.ReferenceIdeal.Gen Idealize.ShloMosaic Idealize.ShloMosaic.StableHlo Cert.Rvq

/-- One step of the search: the smaller pair in the order of value, then index. -/
theorem reducer_step (a b : EReal) (x y : BitVec 32) :
    (reducer_argmin_f32_i32 (F := Ideal) (a, x) (b, y)) = if a < b ∨ (a = b ∧ x.slt y = true) then (a, x) else (b, y) := by
  simp only [reducer_argmin_f32_i32]
  by_cases h1 : a < b <;> by_cases h2 : a = b <;> by_cases h3 : x.slt y = true <;>
    simp [Scalar.select, IntOp.ori, IntOp.andi, IntOp.cmpi, Ideal.cmpf_def, Ideal.cmp, h1, h2, h3]

/-- A pair comes after the first least entry: its value is greater, or the same with a greater index. -/
def After (f : Fin 256 → EReal) (k : Fin 256) (p : EReal × BitVec 32) : Prop :=
  f k < p.1 ∨ (f k = p.1 ∧ (BitVec.ofNat 32 k.val).slt p.2 = true)

/-- A search that starts after the first least entry and meets it, and only such besides, ends with it. -/
theorem foldl_first (f : Fin 256 → EReal) (k : Fin 256) (L : List (EReal × BitVec 32))
    (hL : ∀ p ∈ L, p = (f k, BitVec.ofNat 32 k.val) ∨ After f k p) (a : EReal × BitVec 32)
    (ha : (a = (f k, BitVec.ofNat 32 k.val)) ∨ (After f k a ∧ (f k, BitVec.ofNat 32 k.val) ∈ L)) :
    L.foldl (reducer_argmin_f32_i32 (F := Ideal)) a = (f k, BitVec.ofNat 32 k.val) := by
  induction L generalizing a with
  | nil => simpa using ha
  | cons p L ih =>
    rw [List.foldl_cons]
    have hp := hL p List.mem_cons_self
    refine ih (fun q hq => hL q (List.mem_cons_of_mem _ hq)) _ ?_
    obtain ⟨a1, a2⟩ := a
    obtain ⟨p1, p2⟩ := p
    rw [reducer_step]
    rcases ha with ha | ⟨ha, hm⟩
    · left
      obtain ⟨rfl, rfl⟩ := Prod.mk.inj ha
      rcases hp with hp | hp
      · rw [hp, ite_self]
      · exact if_pos hp
    · rcases hp with hp | hp
      · left
        obtain ⟨rfl, rfl⟩ := Prod.mk.inj hp
        refine if_neg ?_
        rintro (h | ⟨h1, h2⟩)
        · rcases ha with ha | ha
          · exact absurd h ha.not_gt
          · exact absurd h ha.1.not_gt
        · rcases ha with ha | ha
          · exact ha.ne' h1
          · have := ha.2
            simp only [BitVec.slt_eq_decide, decide_eq_true_eq] at h2 this
            omega
      · right
        refine ⟨by split <;> assumption, ?_⟩
        rcases List.mem_cons.mp hm with h | h
        · exfalso
          rw [← h] at hp
          rcases hp with hp | hp
          · exact lt_irrefl _ hp
          · simp [BitVec.slt_eq_decide] at hp
        · exact h

/-- A search over pairs by any reducer is its fold over the fiber: no entry is unequal to itself. -/
theorem argReduce_fold {s t u : Shape} {axes : List (Fin s.rank)} {β : Type} (f : EReal × β → EReal × β → EReal × β)
    (x : FVec Ideal s .f32) (y : s.Idx → β) (ix : FVec Ideal u .f32) (iy : u.Idx → β) (h : s.ReducesTo axes t) (hu : 0 < u.numel) (j : t.Idx) :
    Host.argReduce (F := Ideal) (φ := .f32) f x y ix iy h hu j
      = (Host.argReduceFiber (α := EReal) x y h j).foldl f (ix (Shape.Idx.first hu), iy (Shape.Idx.first hu)) := by
  rw [Ideal.argReduce_eq_reduce2, Host.reduce2_eq_foldl_fiber]

/-- The index as the second part of a fold. -/
theorem argm_fold (d : Arr Ideal S4096x256 .f32) (j : S4096.Idx) : argm (F := Ideal) d j
    = ((Host.argReduceFiber (α := EReal) d (iotaInDim S4096x256 32 1) reducesTo_S4096x256_S4096_d1 j).foldl
        (reducer_argmin_f32_i32 (F := Ideal)) (⊤, 0#32)).2 := by
  have e := argReduce_fold (reducer_argmin_f32_i32 (F := Ideal)) d (iotaInDim S4096x256 32 1) (constant S_ .f32 0x7F800000#32)
    (constantI S_ 32 0#32) reducesTo_S4096x256_S4096_d1 h_S_ j
  rw [← top_word]
  have e0 : argm (F := Ideal) d = fun j => (Host.argReduce (F := Ideal) (φ := .f32) reducer_argmin_f32_i32 d (iotaInDim S4096x256 32 1) (constant S_ .f32 0x7F800000#32)
    (constantI S_ 32 0#32) reducesTo_S4096x256_S4096_d1 h_S_ j).2 := by delta argm; with_reducible rfl
  exact (congrFun e0 j).trans (congrArg Prod.snd e)

/-- THE SEARCH. The index of a row whose least entries are real is the first at which the row is at its least. -/
theorem argm_eq (d : Arr Ideal S4096x256 .f32) (i : Fin 4096) (k : Fin 256) (hk : IsFirst (fun x => d (ix2 i x)) k)
    (hr : IsReal (d (ix2 i k))) : argm (F := Ideal) d (ix1 i) = BitVec.ofNat 32 k.val := by
  rw [argm_fold]
  have hdrop : ∀ x : S4096x256.Idx, reducesTo_S4096x256_S4096_d1.drop x = ix1 i ↔ ∃ y : Fin 256, x = ix2 i y := by
    intro x
    have h0 : ((reducesTo_S4096x256_S4096_d1.drop x) 0 : ℕ) = x 0 :=
      Shape.ReducesTo.drop_apply_val_of_eq (s := S4096x256) reducesTo_S4096x256_S4096_d1 x 0 0
    constructor
    · intro hx
      refine ⟨x 1, (eq_ix2 x).trans (congrArg (ix2 · _) (Fin.ext ?_))⟩
      rw [← h0, hx]
      rfl
    · rintro ⟨y, rfl⟩
      funext a
      obtain rfl : a = 0 := Subsingleton.elim (α := Fin 1) _ _
      exact Fin.ext h0
  rw [foldl_first (fun x => d (ix2 i x)) k]
  · intro p hp
    obtain ⟨n, hn, rfl⟩ := List.mem_map.mp hp
    obtain ⟨y, hy⟩ := (hdrop _).mp (of_decide_eq_true (List.mem_filter.mp hn).2)
    rw [hy]
    have hcol : (iotaInDim S4096x256 32 1 : IVec S4096x256 32) (ix2 i y) = BitVec.ofNat 32 y.val := rfl
    rw [hcol]
    by_cases hyk : y = k
    · left; rw [hyk]
    · right
      rcases (hk.le y).lt_or_eq with h | h
      · exact Or.inl h
      · refine Or.inr ⟨h, ?_⟩
        have : k < y := lt_of_le_of_ne (not_lt.mp fun hlt => (hk.lt y hlt).ne h) (Ne.symm hyk)
        rw [BitVec.slt_eq_decide, toInt_col, toInt_col]
        exact decide_eq_true (by exact_mod_cast this)
  · right
    refine ⟨?_, List.mem_map.mpr ⟨S4096x256.rowMajor (ix2 i k), List.mem_filter.mpr ⟨List.mem_finRange _, ?_⟩, ?_⟩⟩
    · left
      obtain ⟨a, ha⟩ := hr
      show d (ix2 i k) < ⊤
      rw [ha]
      exact EReal.coe_lt_top a
    · rw [Equiv.symm_apply_apply]
      exact decide_eq_true ((hdrop _).mpr ⟨k, rfl⟩)
    · rw [Equiv.symm_apply_apply]
      rfl

/-- THE CODE TAKEN. A row whose index is `k`, in range, takes the `k`-th code. -/
theorem takeRows_eq (cb : Arr Ideal S256x64 .f32) (r : Arr Ideal S4096 .i32) (i : Fin 4096) (k : Fin 256)
    (hk : r (ix1 i) = BitVec.ofNat 32 k.val) (y : Fin 64) : takeRows (F := Ideal) cb r (ix2 i y) = cb (ix2 k y) := by
  have h1 : IntOp.cmpi .slt (BitVec.ofNat 32 k.val) 0#32 = 0#1 := (by decide +kernel : ∀ k : Fin 256, IntOp.cmpi .slt (BitVec.ofNat 32 k.val) 0#32 = 0#1) k
  have h2 : IntOp.cmpi .sge (BitVec.ofNat 32 k.val) 0#32 = 1#1 := (by decide +kernel : ∀ k : Fin 256, IntOp.cmpi .sge (BitVec.ofNat 32 k.val) 0#32 = 1#1) k
  have h3 : IntOp.cmpi .sle (BitVec.ofNat 32 k.val) 255#32 = 1#1 := (by decide +kernel : ∀ k : Fin 256, IntOp.cmpi .sle (BitVec.ofNat 32 k.val) 255#32 = 1#1) k
  have hw : wrap (F := Ideal) r (ix2 i 0) = BitVec.ofNat 32 k.val := by
    pointwise [wrap]
    rw [hk, h1]
    rfl
  have hg : Host.gather gather_S256x64_S4096x1_S4096x64_1_0_n_n_0_1_164 cb (wrap (F := Ideal) r) (ix2 i y) = cb (ix2 k y) := by
    rw [ix2_eq_valueIdx] at hw ⊢
    rw [ix2_eq_valueIdx]
    exact Routing.gather_row gather_S256x64_S4096x1_S4096x64_1_0_n_n_0_1_164 rfl rfl rfl rfl rfl cb (wrap (F := Ideal) r) i y k hw (by norm_num)
  pointwise [takeRows]
  rw [hg, show (Finset.univ : Finset (Fin 1)) = {0} from rfl, Finset.fold_singleton, hw, h2, h3]
  rfl

end Cert.ReferenceIdeal.Ref

end
-- ==== Proof.Value.Stage.lean ====
/- One quantisation stage, kernel against reference. A quarter of the kernel's rows stands for 512 rows of the reference's
   array; where both hold the same real numbers, the stage gives the same indices and leaves the same rows, real again. -/
module

public import proofs.«01_k».proof.Proof.Kern.Step
public import proofs.«01_k».proof.Proof.Ref.Argmin

@[expose] public section

set_option maxRecDepth 16384

noncomputable section

namespace Cert.Rvq

open Idealize.ShloMosaic

/-- A quarter of the kernel's rows. -/
abbrev Quarter := FVec Ideal KernelIdeal.S512x64 .f32
/-- The reference's rows. -/
abbrev Whole := ReferenceIdeal.Ref.Arr Ideal ReferenceIdeal.S4096x64 .f32
/-- One stage's codes. -/
abbrev Codes := ReferenceIdeal.Ref.Arr Ideal ReferenceIdeal.S256x64 .f32
/-- All stages' codes. -/
abbrev Book := ReferenceIdeal.Ref.Arr Ideal ReferenceIdeal.S4x256x64 .f32

/-- The quarter's rows are the reference's rows `e 0`, `e 1`, and so on. -/
def Rows (e : Fin 512 → Fin 4096) (r : Quarter) (R : Whole) : Prop := ∀ i k, r (ix2 i k) = R (ix2 (e i) k)

/-- Every entry of the rows is a real number. -/
def RealRows (R : Whole) : Prop := ∀ i k, IsReal (R (ix2 i k))

/-- The reference's rows after a stage. -/
def left (R : Whole) (c : Codes) : Whole := subf (F := Ideal) (φ := .f32) R (ReferenceIdeal.Ref.quant (F := Ideal) R c)

theorem left_at (R : Whole) (c : Codes) (i : Fin 4096) (y : Fin 64) :
    left R c (ix2 i y) = R (ix2 i y) - ReferenceIdeal.Ref.quant (F := Ideal) R c (ix2 i y) := rfl

/-- The reference's squared distance of a row to a code. -/
theorem ref_dist_at (R : Whole) (c : Codes) (i : Fin 4096) (x : Fin 256) : ReferenceIdeal.Ref.dist (F := Ideal) R c (ix2 i x)
    = ∑ y, R (ix2 i y) * R (ix2 i y) - Ideal.ofBits .f32 0x40000000#32 * ∑ y, R (ix2 i y) * c (ix2 x y)
      + ∑ y, c (ix2 x y) * c (ix2 x y) := by
  pointwise [ReferenceIdeal.Ref.dist]

/-- A stage agrees: the kernel's indices of a quarter are the reference's, and so are the rows it leaves. -/
def Agrees (e : Fin 512 → Fin 4096) (r : Quarter) (R : Whole) (cb : FVec Ideal KernelIdeal.S256x64 .f32) (c : Codes) : Prop :=
  (∀ i, KernelIdeal.Blk.near (KernelIdeal.Blk.dist r cb) (ix2 i 0)
        = ReferenceIdeal.Ref.argm (F := Ideal) (ReferenceIdeal.Ref.dist R c) (ix1 (e i)))
    ∧ Rows e (KernelIdeal.Blk.step r cb) (left R c)

section
variable {R : Whole} {c : Codes} (hR : RealRows R) (hc : ∀ x y, IsReal (c (ix2 x y)))
include hR hc

/-- It is real. -/
theorem ref_dist_real (i : Fin 4096) (x : Fin 256) : IsReal (ReferenceIdeal.Ref.dist (F := Ideal) R c (ix2 i x)) := by
  rw [ref_dist_at, two_word]
  exact (((IsReal.sum _ fun y => (hR i y).mul (hR i y)).sub ((IsReal.coe 2).mul (IsReal.sum _ fun y => (hR i y).mul (hc x y))))).add
    (IsReal.sum _ fun y => (hc x y).mul (hc x y))

/-- The reference's index of a row, and the code it takes: those of the first least distance. -/
theorem ref_stage (i : Fin 4096) (k : Fin 256) (hk : IsFirst (fun x => ReferenceIdeal.Ref.dist (F := Ideal) R c (ix2 i x)) k) :
    ReferenceIdeal.Ref.argm (F := Ideal) (ReferenceIdeal.Ref.dist R c) (ix1 i) = BitVec.ofNat 32 k.val
      ∧ ∀ y, ReferenceIdeal.Ref.quant (F := Ideal) R c (ix2 i y) = c (ix2 k y) := by
  have h := ReferenceIdeal.Ref.argm_eq (ReferenceIdeal.Ref.dist (F := Ideal) R c) i k hk (ref_dist_real hR hc i k)
  exact ⟨h, fun y => ReferenceIdeal.Ref.takeRows_eq c _ i k h y⟩

/-- What the reference takes in a stage is real. -/
theorem quant_real : RealRows (ReferenceIdeal.Ref.quant (F := Ideal) R c) := fun i y => by
  obtain ⟨k, hk⟩ := exists_first fun x => ReferenceIdeal.Ref.dist (F := Ideal) R c (ix2 i x)
  rw [(ref_stage hR hc i k hk).2 y]
  exact hc k y

/-- What it leaves is real. -/
theorem left_real : RealRows (left R c) := fun i y => (hR i y).sub (quant_real hR hc i y)

/-- THE STAGE. The kernel's indices of a quarter are the reference's, and the quarter's rows after the stage are the
    reference's rows after it. -/
theorem stage {e : Fin 512 → Fin 4096} {r : Quarter} (hr : Rows e r R) (cb : FVec Ideal KernelIdeal.S256x64 .f32)
    (hcb : ∀ x y, cb (ix2 x y) = c (ix2 x y)) :
    Agrees e r R cb c := by
  have hcr : ∀ x y, IsReal (cb (ix2 x y)) := fun x y => hcb x y ▸ hc x y
  have hd : ∀ i, (fun x => KernelIdeal.Blk.dist r cb (ix2 i x)) = fun x => ReferenceIdeal.Ref.dist (F := Ideal) R c (ix2 (e i) x) := by
    intro i
    funext x
    rw [KernelIdeal.Blk.dist_at r cb i x (fun y => hr i y ▸ hR (e i) y) (hcr x), ref_dist_at]
    simp only [hr i, hcb]
  refine ⟨fun i => ?_, fun i y => ?_⟩
  · obtain ⟨k, hk⟩ := exists_first fun x => ReferenceIdeal.Ref.dist (F := Ideal) R c (ix2 (e i) x)
    rw [(ref_stage hR hc (e i) k hk).1]
    exact KernelIdeal.Blk.near_eq i k _ (hd i ▸ hk)
  · obtain ⟨k, hk⟩ := exists_first fun x => ReferenceIdeal.Ref.dist (F := Ideal) R c (ix2 (e i) x)
    rw [left_at, (ref_stage hR hc (e i) k hk).2 y, KernelIdeal.Blk.step_at r cb i k (hd i ▸ hk) hcr y, hr i y, hcb]

end

end Cert.Rvq

end
-- ==== Proof.Value.Chain.lean ====
/- The four quantisation stages on a quarter of the kernel's rows, against the reference's four stages on the same rows:
   the rows after every stage, the table of indices, and what is given to the decoder. -/
module

public import proofs.«01_k».proof.Proof.Value.Stage
public import proofs.«01_k».proof.Proof.Ref.Run

@[expose] public section

set_option maxRecDepth 16384

noncomputable section

namespace Cert.Rvq

open Idealize.ShloMosaic

/-- Every code is a real number. -/
def RealBook (C : Book) : Prop := ∀ s x y, IsReal (C (ix3 s x y))

/-- The first stage's codes, read. -/
theorem cb0_at (C : Book) (x : Fin 256) (y : Fin 64) : ReferenceIdeal.Ref.cb0 (F := Ideal) C (ix2 x y) = C (ix3 0 x y) := by
  pointwise [ReferenceIdeal.Ref.cb0]
/-- The second stage's. -/
theorem cb1_at (C : Book) (x : Fin 256) (y : Fin 64) : ReferenceIdeal.Ref.cb1 (F := Ideal) C (ix2 x y) = C (ix3 1 x y) := by
  pointwise [ReferenceIdeal.Ref.cb1]
/-- The third stage's. -/
theorem cb2_at (C : Book) (x : Fin 256) (y : Fin 64) : ReferenceIdeal.Ref.cb2 (F := Ideal) C (ix2 x y) = C (ix3 2 x y) := by
  pointwise [ReferenceIdeal.Ref.cb2]
/-- The fourth stage's. -/
theorem cb3_at (C : Book) (x : Fin 256) (y : Fin 64) : ReferenceIdeal.Ref.cb3 (F := Ideal) C (ix2 x y) = C (ix3 3 x y) := by
  pointwise [ReferenceIdeal.Ref.cb3]

/-- The kernel's first stage's codes, read. -/
theorem kcb0_at (C : Book) (x : Fin 256) (y : Fin 64) : KernelIdeal.Blk.cb0 (F := Ideal) C (ix2 x y) = C (ix3 0 x y) := by
  pointwise [KernelIdeal.Blk.cb0, KernelIdeal.Blk.codes]
/-- The second stage's. -/
theorem kcb1_at (C : Book) (x : Fin 256) (y : Fin 64) : KernelIdeal.Blk.cb1 (F := Ideal) C (ix2 x y) = C (ix3 1 x y) := by
  pointwise [KernelIdeal.Blk.cb1, KernelIdeal.Blk.codes]
/-- The third stage's. -/
theorem kcb2_at (C : Book) (x : Fin 256) (y : Fin 64) : KernelIdeal.Blk.cb2 (F := Ideal) C (ix2 x y) = C (ix3 2 x y) := by
  pointwise [KernelIdeal.Blk.cb2, KernelIdeal.Blk.codes]
/-- The fourth stage's. -/
theorem kcb3_at (C : Book) (x : Fin 256) (y : Fin 64) : KernelIdeal.Blk.cb3 (F := Ideal) C (ix2 x y) = C (ix3 3 x y) := by
  pointwise [KernelIdeal.Blk.cb3, KernelIdeal.Blk.codes]

/-- The reference's rows after the first stage. -/
def R1 (R : Whole) (C : Book) : Whole := left R (ReferenceIdeal.Ref.cb0 (F := Ideal) C)
/-- After the second stage. -/
def R2 (R : Whole) (C : Book) : Whole := left (R1 R C) (ReferenceIdeal.Ref.cb1 (F := Ideal) C)
/-- After the third stage. -/
def R3 (R : Whole) (C : Book) : Whole := left (R2 R C) (ReferenceIdeal.Ref.cb2 (F := Ideal) C)
/-- After the fourth stage. -/
def R4 (R : Whole) (C : Book) : Whole := left (R3 R C) (ReferenceIdeal.Ref.cb3 (F := Ideal) C)

theorem r1_eq (R : Whole) (C : Book) : ReferenceIdeal.Ref.r1 (F := Ideal) R C = R1 R C := rfl
theorem r2_eq (R : Whole) (C : Book) : ReferenceIdeal.Ref.r2 (F := Ideal) R C = R2 R C := rfl
theorem r3_eq (R : Whole) (C : Book) : ReferenceIdeal.Ref.r3 (F := Ideal) R C = R3 R C := rfl

/-- The first column of the kernel's table of a quarter. -/
theorem ktable0 (q : Quarter) (C : Book) (i : Fin 512) : KernelIdeal.Blk.table (F := Ideal) q C (ix2 i 0)
    = KernelIdeal.Blk.near (KernelIdeal.Blk.dist q (KernelIdeal.Blk.cb0 (F := Ideal) C)) (ix2 i 0) := by
  pointwise [KernelIdeal.Blk.table]
/-- The first column of the reference's table. -/
theorem rtable0 (a b c d : ReferenceIdeal.Ref.Arr Ideal ReferenceIdeal.S4096 .i32) (i : Fin 4096) :
    ReferenceIdeal.Ref.table (F := Ideal) a b c d (ix2 i 0) = a (ix1 i) := by
  pointwise [ReferenceIdeal.Ref.table]
/-- The second column of the kernel's table of a quarter. -/
theorem ktable1 (q : Quarter) (C : Book) (i : Fin 512) : KernelIdeal.Blk.table (F := Ideal) q C (ix2 i 1)
    = KernelIdeal.Blk.near (KernelIdeal.Blk.dist (KernelIdeal.Blk.r1 q C) (KernelIdeal.Blk.cb1 (F := Ideal) C)) (ix2 i 0) := by
  pointwise [KernelIdeal.Blk.table]
/-- The second column of the reference's table. -/
theorem rtable1 (a b c d : ReferenceIdeal.Ref.Arr Ideal ReferenceIdeal.S4096 .i32) (i : Fin 4096) :
    ReferenceIdeal.Ref.table (F := Ideal) a b c d (ix2 i 1) = b (ix1 i) := by
  pointwise [ReferenceIdeal.Ref.table]
/-- The third column of the kernel's table of a quarter. -/
theorem ktable2 (q : Quarter) (C : Book) (i : Fin 512) : KernelIdeal.Blk.table (F := Ideal) q C (ix2 i 2)
    = KernelIdeal.Blk.near (KernelIdeal.Blk.dist (KernelIdeal.Blk.r2 q C) (KernelIdeal.Blk.cb2 (F := Ideal) C)) (ix2 i 0) := by
  pointwise [KernelIdeal.Blk.table]
/-- The third column of the reference's table. -/
theorem rtable2 (a b c d : ReferenceIdeal.Ref.Arr Ideal ReferenceIdeal.S4096 .i32) (i : Fin 4096) :
    ReferenceIdeal.Ref.table (F := Ideal) a b c d (ix2 i 2) = c (ix1 i) := by
  pointwise [ReferenceIdeal.Ref.table]
/-- The fourth column of the kernel's table of a quarter. -/
theorem ktable3 (q : Quarter) (C : Book) (i : Fin 512) : KernelIdeal.Blk.table (F := Ideal) q C (ix2 i 3)
    = KernelIdeal.Blk.near (KernelIdeal.Blk.dist (KernelIdeal.Blk.r3 q C) (KernelIdeal.Blk.cb3 (F := Ideal) C)) (ix2 i 0) := by
  pointwise [KernelIdeal.Blk.table]
/-- The fourth column of the reference's table. -/
theorem rtable3 (a b c d : ReferenceIdeal.Ref.Arr Ideal ReferenceIdeal.S4096 .i32) (i : Fin 4096) :
    ReferenceIdeal.Ref.table (F := Ideal) a b c d (ix2 i 3) = d (ix1 i) := by
  pointwise [ReferenceIdeal.Ref.table]

section
variable {R : Whole} {C : Book} (hR : RealRows R) (hC : RealBook C)
include hC

theorem real0 (x : Fin 256) (y : Fin 64) : IsReal (ReferenceIdeal.Ref.cb0 (F := Ideal) C (ix2 x y)) := cb0_at C x y ▸ hC 0 x y
theorem real1 (x : Fin 256) (y : Fin 64) : IsReal (ReferenceIdeal.Ref.cb1 (F := Ideal) C (ix2 x y)) := cb1_at C x y ▸ hC 1 x y
theorem real2 (x : Fin 256) (y : Fin 64) : IsReal (ReferenceIdeal.Ref.cb2 (F := Ideal) C (ix2 x y)) := cb2_at C x y ▸ hC 2 x y
theorem real3 (x : Fin 256) (y : Fin 64) : IsReal (ReferenceIdeal.Ref.cb3 (F := Ideal) C (ix2 x y)) := cb3_at C x y ▸ hC 3 x y

include hR

/-- The rows stay real through the stages. -/
theorem R1_real : RealRows (R1 R C) := left_real hR (real0 hC)
theorem R2_real : RealRows (R2 R C) := left_real (R1_real hR hC) (real1 hC)
theorem R3_real : RealRows (R3 R C) := left_real (R2_real hR hC) (real2 hC)
theorem R4_real : RealRows (R4 R C) := left_real (R3_real hR hC) (real3 hC)

variable {e : Fin 512 → Fin 4096} {q : Quarter} (hq : Rows e q R)
include hq

/-- The first stage on a quarter. -/
theorem stage1 : Agrees e q R (KernelIdeal.Blk.cb0 (F := Ideal) C) (ReferenceIdeal.Ref.cb0 (F := Ideal) C) :=
  stage hR (real0 hC) hq (KernelIdeal.Blk.cb0 (F := Ideal) C) fun x y => (kcb0_at C x y).trans (cb0_at C x y).symm
/-- The second. -/
theorem stage2 : Agrees e (KernelIdeal.Blk.r1 q C) (R1 R C) (KernelIdeal.Blk.cb1 (F := Ideal) C) (ReferenceIdeal.Ref.cb1 (F := Ideal) C) :=
  stage (R1_real hR hC) (real1 hC) (stage1 hR hC hq).2 (KernelIdeal.Blk.cb1 (F := Ideal) C) fun x y => (kcb1_at C x y).trans (cb1_at C x y).symm
/-- The third. -/
theorem stage3 : Agrees e (KernelIdeal.Blk.r2 q C) (R2 R C) (KernelIdeal.Blk.cb2 (F := Ideal) C) (ReferenceIdeal.Ref.cb2 (F := Ideal) C) :=
  stage (R2_real hR hC) (real2 hC) (stage2 hR hC hq).2 (KernelIdeal.Blk.cb2 (F := Ideal) C) fun x y => (kcb2_at C x y).trans (cb2_at C x y).symm
/-- The fourth. -/
theorem stage4 : Agrees e (KernelIdeal.Blk.r3 q C) (R3 R C) (KernelIdeal.Blk.cb3 (F := Ideal) C) (ReferenceIdeal.Ref.cb3 (F := Ideal) C) :=
  stage (R3_real hR hC) (real3 hC) (stage3 hR hC hq).2 (KernelIdeal.Blk.cb3 (F := Ideal) C) fun x y => (kcb3_at C x y).trans (cb3_at C x y).symm

/-- The quarter's rows after the first stage are the reference's. -/
theorem rows1 : Rows e (KernelIdeal.Blk.r1 q C) (R1 R C) := (stage1 hR hC hq).2
/-- After the second. -/
theorem rows2 : Rows e (KernelIdeal.Blk.r2 q C) (R2 R C) := (stage2 hR hC hq).2
/-- After the third. -/
theorem rows3 : Rows e (KernelIdeal.Blk.r3 q C) (R3 R C) := (stage3 hR hC hq).2
/-- After the fourth. -/
theorem rows4 : Rows e (KernelIdeal.Blk.r4 q C) (R4 R C) := (stage4 hR hC hq).2

/-- THE INDICES of a quarter are the reference's. -/
theorem table_eq (i : Fin 512) (s : Fin 4) :
    KernelIdeal.Blk.table q C (ix2 i s) = ReferenceIdeal.Ref.indices (F := Ideal) R C (ix2 (e i) s) := by
  fin_cases s
  · exact (ktable0 q C i).trans (((stage1 hR hC hq).1 i).trans (rtable0 _ _ _ _ (e i)).symm)
  · exact (ktable1 q C i).trans (((stage2 hR hC hq).1 i).trans (rtable1 _ _ _ _ (e i)).symm)
  · exact (ktable2 q C i).trans (((stage3 hR hC hq).1 i).trans (rtable2 _ _ _ _ (e i)).symm)
  · exact (ktable3 q C i).trans (((stage4 hR hC hq).1 i).trans (rtable3 _ _ _ _ (e i)).symm)

/-- WHAT THE DECODER IS GIVEN: the quarter's rows less what the stages left of them, as the reference forms it. -/
theorem decIn_eq (i : Fin 512) (y : Fin 64) :
    subf (F := Ideal) (φ := .f32) q (KernelIdeal.Blk.r4 q C) (ix2 i y) = ReferenceIdeal.Ref.decIn (F := Ideal) R C (ix2 (e i) y) := by
  have h4 := rows4 hR hC hq i y
  show q (ix2 i y) - KernelIdeal.Blk.r4 q C (ix2 i y) = _
  rw [h4, hq i y]
  refine (taken_eq (hR (e i) y) (quant_real hR (real0 hC) (e i) y) (quant_real (R1_real hR hC) (real1 hC) (e i) y)
    (quant_real (R2_real hR hC) (real2 hC) (e i) y) (quant_real (R3_real hR hC) (real3 hC) (e i) y)).trans ?_
  have hz : ReferenceIdeal.Ref.zeros (F := Ideal) (ix2 (e i) y) = 0 := by
    pointwise [ReferenceIdeal.Ref.zeros]
  rw [← hz]
  rfl

end

end Cert.Rvq

end
-- ==== Proof.Value.Block.lean ====
/- A block of the kernel's rows: its four quarters stand for its rows in order, so its decoder's input, its table of
   indices and its sum of squares are the reference's on the rows the block stands for. -/
module

public import proofs.«01_k».proof.Proof.Value.Chain

@[expose] public section

set_option maxRecDepth 16384

noncomputable section

namespace Cert.Rvq

open Idealize.ShloMosaic

/-- A block of the kernel's encoded rows. -/
abbrev Block := FVec Ideal KernelIdeal.S2048x64 .f32

/-- The rows of a quarter that starts at row `n`. -/
def part (n : ℕ) (hn : n + 512 ≤ 2048) (i : Fin 512) : Fin 2048 := ⟨n + i.val, by omega⟩

/-- The sum over a block's rows is the sum over its quarters. -/
theorem sum_block (f : Fin 2048 → EReal) : ∑ i, f i = ∑ i, f (part 0 (by omega) i) + ∑ i, f (part 512 (by omega) i)
    + ∑ i, f (part 1024 (by omega) i) + ∑ i, f (part 1536 (by omega) i) := by
  have h1 := Fin.sum_univ_add (a := 512) (b := 1536) f
  have h2 := Fin.sum_univ_add (a := 512) (b := 1024) fun i => f (Fin.natAdd 512 i)
  have h3 := Fin.sum_univ_add (a := 512) (b := 512) fun i => f (Fin.natAdd 512 (Fin.natAdd 512 i))
  refine h1.trans ?_
  rw [h2, h3, ← add_assoc, ← add_assoc]
  congr 1

/-- The sum of a row's squares. -/
def rowSq (R : Whole) (j : Fin 4096) : EReal := ∑ y, R (ix2 j y) * R (ix2 j y)

/-- The sum of a quarter's squares is that of the rows it stands for. -/
theorem sq_eq {e : Fin 512 → Fin 4096} {r : Quarter} {R : Whole} (hr : Rows e r R) : KernelIdeal.Blk.sq r = ∑ i, rowSq R (e i) := by
  pointwise [KernelIdeal.Blk.sq]
  simp only [hr _ _, rowSq]

/-- A running sum over the four quarters. -/
theorem carry_eq (s : EReal) (f : Quarter → Quarter) (h : Block) : KernelIdeal.Blk.carry (F := Ideal) s f h
    = s + (KernelIdeal.Blk.sq (f (KernelIdeal.Blk.q0 h)) + KernelIdeal.Blk.sq (f (KernelIdeal.Blk.q1 h))
      + KernelIdeal.Blk.sq (f (KernelIdeal.Blk.q2 h)) + KernelIdeal.Blk.sq (f (KernelIdeal.Blk.q3 h)) : EReal) := by
  rw [← add_assoc, ← add_assoc, ← add_assoc]
  rfl

/-- The zero word is zero. -/
theorem zero_word : Ideal.ofBits .f32 0x00000000#32 = 0 := by simp [Ideal.ofBits, Ideal.ieee]

variable {e : Fin 2048 → Fin 4096} {h : Block} {H : Whole} {C : Book}

/-- The table of a quarter, at the place in the block it stands for. -/
theorem piece_eq (hH : RealRows H) (hC : RealBook C) (n : ℕ) (hn : n + 512 ≤ 2048) {q : Quarter} (hq : Rows (fun i => e (part n hn i)) q H)
    (i : Fin 2048) (s : Fin 4) (x : KernelIdeal.S512x4.Idx) (h0 : i.val = n + (x 0).val) (h1 : s.val = (x 1).val) :
    KernelIdeal.Blk.table (F := Ideal) q C x = ReferenceIdeal.Ref.indices (F := Ideal) H C (ix2 (e i) s) := by
  have hi : part n hn (x 0) = i := Fin.ext h0.symm
  have hs : x 1 = s := Fin.ext h1.symm
  rw [eq_ix2 x]
  refine (table_eq hH hC hq (x 0) (x 1)).trans ?_
  rw [hi, hs]

section
variable (hh : ∀ i k, h (ix2 i k) = H (ix2 (e i) k))
include hh

/-- The first quarter's rows. -/
theorem rows_q0 : Rows (fun i => e (part 0 (by omega) i)) (KernelIdeal.Blk.q0 h) H := fun i k => by
  rw [← hh]
  pointwise [KernelIdeal.Blk.q0]
  exact congrArg (fun x => h (ix2 x k)) (Fin.ext (by simp [part]))
/-- The second quarter's. -/
theorem rows_q1 : Rows (fun i => e (part 512 (by omega) i)) (KernelIdeal.Blk.q1 h) H := fun i k => by
  rw [← hh]
  pointwise [KernelIdeal.Blk.q1]
  rfl
/-- The third quarter's. -/
theorem rows_q2 : Rows (fun i => e (part 1024 (by omega) i)) (KernelIdeal.Blk.q2 h) H := fun i k => by
  rw [← hh]
  pointwise [KernelIdeal.Blk.q2]
  rfl
/-- The fourth quarter's. -/
theorem rows_q3 : Rows (fun i => e (part 1536 (by omega) i)) (KernelIdeal.Blk.q3 h) H := fun i k => by
  rw [← hh]
  pointwise [KernelIdeal.Blk.q3]
  rfl

variable (hH : RealRows H) (hC : RealBook C)
include hH hC

/-- THE DECODER'S INPUT of a block is the reference's on its rows. -/
theorem xq_eq (i : Fin 2048) (y : Fin 64) : KernelIdeal.Blk.xq h C (ix2 i y) = ReferenceIdeal.Ref.decIn (F := Ideal) H C (ix2 (e i) y) := by
  have hi := i.isLt
  pointwise [KernelIdeal.Blk.xq]
  by_cases h1 : i.val < 512
  · rw [dif_pos h1]
    refine (decIn_eq hH hC (rows_q0 hh) ⟨i.val, h1⟩ y).trans (congrArg (fun x => ReferenceIdeal.Ref.decIn (F := Ideal) H C (ix2 (e x) y)) (Fin.ext ?_))
    simp [part]
  rw [dif_neg h1]
  by_cases h2 : i.val - 512 < 512
  · rw [dif_pos h2]
    refine (decIn_eq hH hC (rows_q1 hh) ⟨i.val - 512, h2⟩ y).trans (congrArg (fun x => ReferenceIdeal.Ref.decIn (F := Ideal) H C (ix2 (e x) y)) (Fin.ext ?_))
    show 512 + (i.val - 512) = i.val
    omega
  rw [dif_neg h2]
  by_cases h3 : i.val - 512 - 512 < 512
  · rw [dif_pos h3]
    refine (decIn_eq hH hC (rows_q2 hh) ⟨i.val - 512 - 512, h3⟩ y).trans (congrArg (fun x => ReferenceIdeal.Ref.decIn (F := Ideal) H C (ix2 (e x) y)) (Fin.ext ?_))
    show 1024 + (i.val - 512 - 512) = i.val
    omega
  rw [dif_neg h3]
  refine (decIn_eq hH hC (rows_q3 hh) ⟨i.val - 512 - 512 - 512, by omega⟩ y).trans (congrArg (fun x => ReferenceIdeal.Ref.decIn (F := Ideal) H C (ix2 (e x) y)) (Fin.ext ?_))
  show 1536 + (i.val - 512 - 512 - 512) = i.val
  omega

/-- THE SUM OF SQUARES of a block over the four stages. -/
theorem total_eq : KernelIdeal.Blk.total (F := Ideal) h C
    = ∑ i, rowSq (R1 H C) (e i) + ∑ i, rowSq (R2 H C) (e i) + ∑ i, rowSq (R3 H C) (e i) + ∑ i, rowSq (R4 H C) (e i) := by
  unfold KernelIdeal.Blk.total
  rw [carry_eq, carry_eq, carry_eq, carry_eq,
    sq_eq (rows1 hH hC (rows_q0 hh)), sq_eq (rows1 hH hC (rows_q1 hh)), sq_eq (rows1 hH hC (rows_q2 hh)), sq_eq (rows1 hH hC (rows_q3 hh)),
    sq_eq (rows2 hH hC (rows_q0 hh)), sq_eq (rows2 hH hC (rows_q1 hh)), sq_eq (rows2 hH hC (rows_q2 hh)), sq_eq (rows2 hH hC (rows_q3 hh)),
    sq_eq (rows3 hH hC (rows_q0 hh)), sq_eq (rows3 hH hC (rows_q1 hh)), sq_eq (rows3 hH hC (rows_q2 hh)), sq_eq (rows3 hH hC (rows_q3 hh)),
    sq_eq (rows4 hH hC (rows_q0 hh)), sq_eq (rows4 hH hC (rows_q1 hh)), sq_eq (rows4 hH hC (rows_q2 hh)), sq_eq (rows4 hH hC (rows_q3 hh)),
    sum_block fun i => rowSq (R1 H C) (e i), sum_block fun i => rowSq (R2 H C) (e i), sum_block fun i => rowSq (R3 H C) (e i),
    sum_block fun i => rowSq (R4 H C) (e i)]
  rw [show (Scalar.ofBits (F := Ideal) .f32 0x00000000#32 : EReal) = 0 from zero_word, zero_add]

/-- THE TABLE of a block is the reference's on its rows. -/
theorem tab_eq (i : Fin 2048) (s : Fin 4) :
    View.canon (Val := Elt Ideal) (s := KernelIdeal.S2048x4) (e := .i32)
      [⟨Rect.unit ![1536, 0] ![512, 4] KernelIdeal.Gen.inb_S2048x4_S512x4_1536_0, KernelIdeal.Blk.table (F := Ideal) (KernelIdeal.Blk.q3 h) C⟩,
        ⟨Rect.unit ![1024, 0] ![512, 4] KernelIdeal.Gen.inb_S2048x4_S512x4_1024_0, KernelIdeal.Blk.table (F := Ideal) (KernelIdeal.Blk.q2 h) C⟩,
        ⟨Rect.unit ![512, 0] ![512, 4] KernelIdeal.Gen.inb_S2048x4_S512x4_512_0, KernelIdeal.Blk.table (F := Ideal) (KernelIdeal.Blk.q1 h) C⟩,
        ⟨Rect.unit ![0, 0] ![512, 4] KernelIdeal.Gen.inb_S2048x4_S512x4_0_0, KernelIdeal.Blk.table (F := Ideal) (KernelIdeal.Blk.q0 h) C⟩] (ix2 i s)
      = ReferenceIdeal.Ref.indices (F := Ideal) H C (ix2 (e i) s) := by
  canon_tiles x hx
  · exact piece_eq hH hC 1536 (by omega) (rows_q3 hh) i s x hx0 hx1
  · exact piece_eq hH hC 1024 (by omega) (rows_q2 hh) i s x hx0 hx1
  · exact piece_eq hH hC 512 (by omega) (rows_q1 hh) i s x hx0 hx1
  · exact piece_eq hH hC 0 (by omega) (rows_q0 hh) i s x (hx0.trans (Nat.zero_add _).symm) hx1

end

end Cert.Rvq

end
-- ==== Proof.Value.Loss.lean ====
/- The loss, kernel against reference: the scaled sums of squares of the two blocks, added in turn to zero, are the
   reference's mean over the four stages of a mean square and a quarter of it. -/
module

public import proofs.«01_k».proof.Proof.Value.Block

@[expose] public section

set_option maxRecDepth 16384

noncomputable section

namespace Cert.Rvq

open Idealize.ShloMosaic

/-- The sum over the reference's rows is the sum over the two blocks' rows. -/
theorem sum_whole (f : Fin 4096 → EReal) (e0 e1 : Fin 2048 → Fin 4096) (h0 : ∀ i, (e0 i).val = i.val) (h1 : ∀ i, (e1 i).val = 2048 + i.val) :
    ∑ j, f j = ∑ i, f (e0 i) + ∑ i, f (e1 i) := by
  refine (Fin.sum_univ_add (a := 2048) (b := 2048) f).trans (congrArg₂ (· + ·) ?_ ?_)
  · exact Finset.sum_congr rfl fun i _ => congrArg f (Fin.ext (h0 i).symm)
  · exact Finset.sum_congr rfl fun i _ => congrArg f (Fin.ext (h1 i).symm)

/-- A stage's loss, from the sum of squares of what the stage leaves. -/
def lossOf (s : EReal) : EReal := Ideal.div s (Ideal.ofBits .f32 0x45800000#32) + Ideal.ofBits .f32 0x3E800000#32 * Ideal.div s (Ideal.ofBits .f32 0x45800000#32)

/-- The reference's loss of a stage is that of the sum of squares of what it leaves. -/
theorem ref_loss {R : Whole} {c : Codes} (hR : RealRows R) (hc : ∀ x y, IsReal (c (ix2 x y))) :
    ReferenceIdeal.Ref.loss (F := Ideal) (ReferenceIdeal.Ref.quant (F := Ideal) R c) R ix0 = lossOf (∑ j, rowSq (left R c) j) := by
  have hs : ∑ x, ∑ y, (ReferenceIdeal.Ref.quant (F := Ideal) R c (ix2 x y) - R (ix2 x y)) * (ReferenceIdeal.Ref.quant (F := Ideal) R c (ix2 x y) - R (ix2 x y))
      = ∑ j, rowSq (left R c) j :=
    Finset.sum_congr rfl fun x _ => Finset.sum_congr rfl fun y _ => sq_sub_comm (quant_real hR hc x y) (hR x y)
  rw [← hs]
  generalize ReferenceIdeal.Ref.quant (F := Ideal) R c = Q
  pointwise [ReferenceIdeal.Ref.loss, ReferenceIdeal.Ref.msq]
  rfl

/-- The mean of four losses, read. -/
theorem mean4_at (a b c d : ReferenceIdeal.Ref.Arr Ideal ReferenceIdeal.S_ .f32) : ReferenceIdeal.Ref.mean4 (F := Ideal) a b c d ix0
    = Ideal.div (a ix0 + b ix0 + c ix0 + d ix0) (Ideal.ofBits .f32 0x40800000#32) := by
  pointwise [ReferenceIdeal.Ref.mean4]
  rw [Fin.sum_univ_four]
  rfl

/-- A single number laid out as one row of one, read. -/
theorem cast_at (x : ReferenceIdeal.Ref.Arr Ideal ReferenceIdeal.S_ .f32) :
    shapeCast ReferenceIdeal.S1x1 x ReferenceIdeal.Gen.shapeCasts_S_S1x1 (ix2 0 0) = x ix0 := by
  pointwise []

variable {h0 h1 : Block} {H : Whole} {C : Book} {e0 e1 : Fin 2048 → Fin 4096}

/-- A row's sum of squares is real. -/
theorem rowSq_real {R : Whole} (hR : RealRows R) (j : Fin 4096) : IsReal (rowSq R j) := IsReal.sum _ fun y => (hR j y).mul (hR j y)

/-- THE LOSS of the two blocks is the reference's. -/
theorem loss_blocks (he0 : ∀ i, (e0 i).val = i.val) (he1 : ∀ i, (e1 i).val = 2048 + i.val)
    (hh0 : ∀ i k, h0 (ix2 i k) = H (ix2 (e0 i) k)) (hh1 : ∀ i k, h1 (ix2 i k) = H (ix2 (e1 i) k)) (hH : RealRows H) (hC : RealBook C) :
    KernelIdeal.Blk.bump (F := Ideal) (KernelIdeal.Blk.bump (F := Ideal) (Scalar.ofBits .f32 0x00000000#32) (KernelIdeal.Blk.total (F := Ideal) h0 C))
        (KernelIdeal.Blk.total (F := Ideal) h1 C)
      = ReferenceIdeal.Ref.totalLoss (F := Ideal) H C (ix2 0 0) := by
  have k1 := R1_real hH hC
  have k2 := R2_real hH hC
  have k3 := R3_real hH hC
  have k4 := R4_real hH hC
  have hr : ReferenceIdeal.Ref.totalLoss (F := Ideal) H C (ix2 0 0)
      = Ideal.div (lossOf (∑ j, rowSq (R1 H C) j) + lossOf (∑ j, rowSq (R2 H C) j) + lossOf (∑ j, rowSq (R3 H C) j) + lossOf (∑ j, rowSq (R4 H C) j))
        (Ideal.ofBits .f32 0x40800000#32) := by
    have l1 := ref_loss hH (real0 hC)
    have l2 := ref_loss k1 (real1 hC)
    have l3 := ref_loss k2 (real2 hC)
    have l4 := ref_loss k3 (real3 hC)
    unfold ReferenceIdeal.Ref.totalLoss
    rw [r1_eq, r2_eq, r3_eq]
    rw [cast_at, mean4_at, l1, l2, l3, l4]
    rfl
  rw [hr, total_eq hh0 hH hC, total_eq hh1 hH hC]
  have z : (Scalar.ofBits (F := Ideal) .f32 0x00000000#32 : EReal) = 0 := zero_word
  rw [z]
  refine loss_eq ?_ ?_ ?_ ?_ ?_ ?_ ?_
  · exact (((IsReal.sum _ fun i => rowSq_real k1 _).add (IsReal.sum _ fun i => rowSq_real k2 _)).add (IsReal.sum _ fun i => rowSq_real k3 _)).add
      (IsReal.sum _ fun i => rowSq_real k4 _)
  · exact (((IsReal.sum _ fun i => rowSq_real k1 _).add (IsReal.sum _ fun i => rowSq_real k2 _)).add (IsReal.sum _ fun i => rowSq_real k3 _)).add
      (IsReal.sum _ fun i => rowSq_real k4 _)
  · exact IsReal.sum _ fun j => rowSq_real k1 j
  · exact IsReal.sum _ fun j => rowSq_real k2 j
  · exact IsReal.sum _ fun j => rowSq_real k3 j
  · exact IsReal.sum _ fun j => rowSq_real k4 j
  · rw [sum_whole (rowSq (R1 H C)) e0 e1 he0 he1, sum_whole (rowSq (R2 H C)) e0 e1 he0 he1, sum_whole (rowSq (R3 H C)) e0 e1 he0 he1,
      sum_whole (rowSq (R4 H C)) e0 e1 he0 he1]
    abel

end Cert.Rvq

end
-- ==== Proof.Value.Arrays.lean ====
/- The kernel's three result arrays after the run are the reference's terms of the kernel's arguments, where the input, the
   encoder's weights and biases and the codes are real. -/
module

public import proofs.«01_k».proof.Proof.Kern.Reads
public import proofs.«01_k».proof.Proof.Kern.Blocks
public import proofs.«01_k».proof.Proof.Value.Layers
public import proofs.«01_k».proof.Proof.Value.Loss

@[expose] public section

set_option maxRecDepth 16384

noncomputable section

namespace Cert.KernelIdeal.Blk

open Cert.KernelIdeal Cert.KernelIdeal.Gen Cert.KernelIdeal.Value Cert.Rvq
open Idealize.ShloMosaic Idealize.ShloMosaic.TcCoe Idealize.SL.Sem
open Idealize.ShloMosaic.Pipeline (Dat)

variable (m : (ℓ : Loc nD τ sig) → Buf (Elt Ideal) ℓ) (c : Dev nD)

/-- The reference's encoded rows of the kernel's arguments. -/
def encW : Whole := ReferenceIdeal.Ref.enc (F := Ideal) (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8))

/-- The codes. -/
def book : Book := m ((c : Thread nD τ).loc main_arg17)

/-- The reference's first result, of the kernel's arguments. -/
def outW : ReferenceIdeal.Ref.Arr Ideal ReferenceIdeal.S4096x768 .f32 :=
  ReferenceIdeal.Ref.dec (F := Ideal) (ReferenceIdeal.Ref.decIn (F := Ideal) (encW m c) (book m c)) (m ((c : Thread nD τ).loc main_arg9))
    (m ((c : Thread nD τ).loc main_arg10)) (m ((c : Thread nD τ).loc main_arg11)) (m ((c : Thread nD τ).loc main_arg12))
    (m ((c : Thread nD τ).loc main_arg13)) (m ((c : Thread nD τ).loc main_arg14)) (m ((c : Thread nD τ).loc main_arg15))
    (m ((c : Thread nD τ).loc main_arg16))

/-- A block's encoded rows are the reference's. -/
theorem encB_eq (t : Fin cfg0.N) (i : Fin 2048) (k : Fin 64) : encB m c t (ix2 i k) = encW m c (ix2 (at2048 t i) k) := by
  unfold encB encW
  rw [iblk1, iblk3, iblk5, iblk7]
  exact enc_eq (at2048 t) (iblk0 m c t) _ _ _ _ (iblk2 m c t) (iblk4 m c t) (iblk6 m c t) (iblk8 m c t) i k

variable (hH : RealRows (encW m c)) (hC : RealBook (book m c))
include hH hC

/-- A block's decoded rows are the reference's. -/
theorem outB_eq (t : Fin cfg0.N) (i : Fin 2048) (k : Fin 768) : outB m c t (ix2 i k) = outW m c (ix2 (at2048 t i) k) := by
  unfold outB outW
  rw [iblk9, iblk11, iblk13, iblk15, iblk17]
  exact dec_eq (at2048 t) (xq_eq (C := book m c) (encB_eq m c t) hH hC) _ _ _ _ (iblk10 m c t) (iblk12 m c t) (iblk14 m c t) (iblk16 m c t) i k

/-- A block's indices are the reference's. -/
theorem idxB_eq (t : Fin cfg0.N) (i : Fin 2048) (s : Fin 4) :
    idxB m c t (ix2 i s) = ReferenceIdeal.Ref.indices (F := Ideal) (encW m c) (book m c) (ix2 (at2048 t i) s) := by
  unfold idxB
  rw [iblk17]
  exact tab_eq (C := book m c) (encB_eq m c t) hH hC i s

/-- THE OUTPUT after the run. -/
theorem arr18 : (dats m 0 c).arrAt 18 cfg0.N = outW m c := by
  refine (dats m 0 c).arrAt_eq_of_covers 18 _ (by decide +kernel) fun t hf y => ?_
  blk_simp
  rw [o18]
  refine (congrArg (outB m c t) (eq_ix2 y)).trans ((outB_eq m c hH hC t (y 0) (y 1)).trans (congrArg (outW m c) ?_))
  blk_ext [idxRows t, at2048]

/-- THE INDICES after the run. -/
theorem arr19 : (dats m 0 c).arrAt 19 cfg0.N = ReferenceIdeal.Ref.indices (F := Ideal) (encW m c) (book m c) := by
  refine (dats m 0 c).arrAt_eq_of_covers 19 _ (by decide +kernel) fun t hf y => ?_
  blk_simp
  rw [o19]
  refine (congrArg (idxB m c t) (eq_ix2 y)).trans ((idxB_eq m c hH hC t (y 0) (y 1)).trans
    (congrArg (ReferenceIdeal.Ref.indices (F := Ideal) (encW m c) (book m c)) ?_))
  blk_ext [idxRows t, at2048]

/-- The first grid point, and the last. -/
def t0 : Fin cfg0.N := ⟨0, by rw [show cfg0.N = 2 from N_0]; omega⟩
def t1 : Fin cfg0.N := ⟨1, by rw [show cfg0.N = 2 from N_0]; omega⟩

/-- THE LOSS after the run. -/
theorem arr20 : (dats m 0 c).arrAt 20 cfg0.N = ReferenceIdeal.Ref.totalLoss (F := Ideal) (encW m c) (book m c) := by
  refine (dats m 0 c).arrAt_eq_of_after_last 20 t1 (by decide +kernel) _ fun j => ?_
  blk_simp
  rw [o20 m c t1 t0 rfl rfl, iblk17, iblk17]
  refine (loss_blocks (C := book m c) (e0 := at2048 t0) (e1 := at2048 t1) (fun i => ?_) (fun i => ?_) (encB_eq m c t0) (encB_eq m c t1) hH hC).trans
    (congrArg (ReferenceIdeal.Ref.totalLoss (F := Ideal) (encW m c) (book m c)) (idx1x1 _ _))
  · simp [at2048, t0]
  · simp [at2048, t1]

end Cert.KernelIdeal.Blk

end
-- ==== Proof.Value.Finite.lean ====
/- The precondition read back: every entry of the input, of the encoder's weights and biases and of the codes is a real number. -/
module

public import proofs.«01_k».proof.Proof.Pre.Facts
public import proofs.«01_k».proof.Proof.Math.Real
public import Idealize.ShloMosaic.Lib.ReduceAll

@[expose] public section

namespace Cert.Pre_finite

open Idealize.ShloMosaic Cert.Rvq

/-- A scalar has one index. -/
instance one_idx : Subsingleton S_.Idx := ⟨fun _ _ => funext fun a => a.elim0⟩

/-- Where the conjunction over an array of "its absolute value is below infinity" holds, every entry is a real number. -/
theorem all_real {s : Shape} {axes : List (Fin s.rank)} (x : FVec Ideal s .f32) (b : S_.BroadcastsInDim s (![] : Fin 0 → Fin s.rank))
    (h : s.ReducesTo axes S_) (hu : 0 < S_.numel) (j : S_.Idx)
    (e : Host.reduce IntOp.andi (cmpf .olt (Host.absf x) (broadcastInDim s ![] b (constant S_ .f32 0x7F800000#32))) (constantI S_ 1 1#1) h hu j
      = 1#1) (i : s.Idx) : IsReal (x i) := by
  have e' := Host.reduce_andi_all _ _ h hu j e i
  refine isReal_of_abs_lt ?_
  have e2 : BitVec.ofBool (decide (Max.max (x i) (-(x i)) < Ideal.ofBits .f32 0x7F800000#32)) = 1#1 := e'
  rw [top_word] at e2
  by_contra hn
  rw [decide_eq_false hn] at e2
  exact absurd e2 (by decide)

variable (a0 : FVec Ideal S4096x768 .f32) (a1 : FVec Ideal S768x512 .f32) (a2 : FVec Ideal S512 .f32) (a3 : FVec Ideal S512x256 .f32)
  (a4 : FVec Ideal S256 .f32) (a5 : FVec Ideal S256x128 .f32) (a6 : FVec Ideal S128 .f32) (a7 : FVec Ideal S128x64 .f32)
  (a8 : FVec Ideal S64 .f32) (a9 : FVec Ideal S64x128 .f32) (a10 : FVec Ideal S128 .f32) (a11 : FVec Ideal S128x256 .f32)
  (a12 : FVec Ideal S256 .f32) (a13 : FVec Ideal S256x512 .f32) (a14 : FVec Ideal S512 .f32) (a15 : FVec Ideal S512x768 .f32)
  (a16 : FVec Ideal S768 .f32) (a17 : FVec Ideal S4x256x64 .f32)

/-- The precondition's arrays hold real numbers throughout. -/
theorem reals (e : fn a0 a1 a2 a3 a4 a5 a6 a7 a8 a9 a10 a11 a12 a13 a14 a15 a16 a17 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) ∧ ∀ i, IsReal (a17 i) := by
  let j : S_.Idx := fun a => a.elim0
  have e0 := congrFun e j
  unfold fn fn_part1 fn_part2 at e0
  obtain ⟨e0, h17⟩ := IntOp.andi_eq_one.1 e0
  obtain ⟨e0, h8⟩ := IntOp.andi_eq_one.1 e0
  obtain ⟨e0, h7⟩ := IntOp.andi_eq_one.1 e0
  obtain ⟨e0, h6⟩ := IntOp.andi_eq_one.1 e0
  obtain ⟨e0, h5⟩ := IntOp.andi_eq_one.1 e0
  obtain ⟨e0, h4⟩ := IntOp.andi_eq_one.1 e0
  obtain ⟨e0, h3⟩ := IntOp.andi_eq_one.1 e0
  obtain ⟨e0, h2⟩ := IntOp.andi_eq_one.1 e0
  obtain ⟨e0, h1⟩ := IntOp.andi_eq_one.1 e0
  obtain ⟨_, h0⟩ := IntOp.andi_eq_one.1 e0
  exact ⟨all_real _ _ _ _ _ h0, all_real _ _ _ _ _ h1, all_real _ _ _ _ _ h2, all_real _ _ _ _ _ h3, all_real _ _ _ _ _ h4,
    all_real _ _ _ _ _ h5, all_real _ _ _ _ _ h6, all_real _ _ _ _ _ h7, all_real _ _ _ _ _ h8, all_real _ _ _ _ _ h17⟩

end Cert.Pre_finite
-- ==== Proof.Value.Agree.lean ====
/- The kernel and the reference, both idealised: from arguments that agree, both runs leave the same three results. -/
module

public import proofs.«01_k».proof.Defs
public import proofs.«01_k».proof.Proof.Ref.Run
public import proofs.«01_k».proof.Proof.Value.Arrays
public import proofs.«01_k».proof.Proof.Value.Finite

@[expose] public section

set_option maxRecDepth 16384

noncomputable section

namespace Cert.Proof

open Idealize.ShloMosaic Idealize.ShloMosaic.TcCoe Idealize.SL.Sem Idealize.ShloMosaic.StableHlo Cert.Rvq Cert.KernelIdeal.Blk

/-- The encoded rows of an input that meets the precondition are real, and so are the codes. -/
theorem pre_real (m : (ℓ : Loc KernelIdeal.nD KernelIdeal.τ KernelIdeal.sig) → Buf (Elt Ideal) ℓ) (hp : Cert.Pre_KernelIdeal_finite m)
    (c : Dev KernelIdeal.nD) : RealRows (encW m c) ∧ RealBook (book m c) := by
  obtain ⟨h0, h1, h2, h3, h4, h5, h6, h7, h8, h17⟩ := Cert.Pre_finite.reals _ _ _ _ _ _ _ _ _ _ _ _ _ _ _ _ _ _ (hp c)
  exact ⟨fun i k => enc_real h0 h1 h2 h3 h4 h5 h6 h7 h8 i k, fun s x y => h17 (ix3 s x y)⟩

/-- THE THREE RESULTS of the kernel and of the reference are the same. -/
theorem agree : Cert.algebraic_KernelIdeal_ReferenceIdeal_pre_finite := by
  intro m g m' g' hp hin
  refine ⟨fun c => outW m c, fun c => ReferenceIdeal.Ref.totalLoss (F := Ideal) (encW m c) (book m c),
    fun c => ReferenceIdeal.Ref.indices (F := Ideal) (encW m c) (book m c), ?_, ?_⟩
  · refine (θ_run _ _ _).mono (fun r h c => ?_) (KernelIdeal.Value.run_blocks m g)
    obtain ⟨hH, hC⟩ := pre_real m hp c
    obtain ⟨e0, e1, e2, hk⟩ := h c
    exact ⟨e0.trans (arr18 m c hH hC), e2.trans (arr20 m c hH hC), e1.trans (arr19 m c hH hC), hk⟩
  · refine (θ_run _ _ _).mono (fun r h c => ?_) (θ_run_and (ReferenceIdeal.Ref.run m' g') (ReferenceIdeal.Ref.frame m' g'))
    obtain ⟨⟨hr, _⟩, hk, _⟩ := h
    obtain ⟨i0, i1, i2, i3, i4, i5, i6, i7, i8, i9, i10, i11, i12, i13, i14, i15, i16, i17⟩ := hin c
    have k0 : launchContents m' c (Proc.devRef .tc ReferenceIdeal.main_arg0) = m ((c.tc : Thread KernelIdeal.nD KernelIdeal.τ).loc KernelIdeal.main_arg0) := i0
    have k1 : launchContents m' c (Proc.devRef .tc ReferenceIdeal.main_arg1) = m ((c.tc : Thread KernelIdeal.nD KernelIdeal.τ).loc KernelIdeal.main_arg1) := i1
    have k2 : launchContents m' c (Proc.devRef .tc ReferenceIdeal.main_arg2) = m ((c.tc : Thread KernelIdeal.nD KernelIdeal.τ).loc KernelIdeal.main_arg2) := i2
    have k3 : launchContents m' c (Proc.devRef .tc ReferenceIdeal.main_arg3) = m ((c.tc : Thread KernelIdeal.nD KernelIdeal.τ).loc KernelIdeal.main_arg3) := i3
    have k4 : launchContents m' c (Proc.devRef .tc ReferenceIdeal.main_arg4) = m ((c.tc : Thread KernelIdeal.nD KernelIdeal.τ).loc KernelIdeal.main_arg4) := i4
    have k5 : launchContents m' c (Proc.devRef .tc ReferenceIdeal.main_arg5) = m ((c.tc : Thread KernelIdeal.nD KernelIdeal.τ).loc KernelIdeal.main_arg5) := i5
    have k6 : launchContents m' c (Proc.devRef .tc ReferenceIdeal.main_arg6) = m ((c.tc : Thread KernelIdeal.nD KernelIdeal.τ).loc KernelIdeal.main_arg6) := i6
    have k7 : launchContents m' c (Proc.devRef .tc ReferenceIdeal.main_arg7) = m ((c.tc : Thread KernelIdeal.nD KernelIdeal.τ).loc KernelIdeal.main_arg7) := i7
    have k8 : launchContents m' c (Proc.devRef .tc ReferenceIdeal.main_arg8) = m ((c.tc : Thread KernelIdeal.nD KernelIdeal.τ).loc KernelIdeal.main_arg8) := i8
    have k9 : launchContents m' c (Proc.devRef .tc ReferenceIdeal.main_arg9) = m ((c.tc : Thread KernelIdeal.nD KernelIdeal.τ).loc KernelIdeal.main_arg9) := i9
    have k10 : launchContents m' c (Proc.devRef .tc ReferenceIdeal.main_arg10) = m ((c.tc : Thread KernelIdeal.nD KernelIdeal.τ).loc KernelIdeal.main_arg10) := i10
    have k11 : launchContents m' c (Proc.devRef .tc ReferenceIdeal.main_arg11) = m ((c.tc : Thread KernelIdeal.nD KernelIdeal.τ).loc KernelIdeal.main_arg11) := i11
    have k12 : launchContents m' c (Proc.devRef .tc ReferenceIdeal.main_arg12) = m ((c.tc : Thread KernelIdeal.nD KernelIdeal.τ).loc KernelIdeal.main_arg12) := i12
    have k13 : launchContents m' c (Proc.devRef .tc ReferenceIdeal.main_arg13) = m ((c.tc : Thread KernelIdeal.nD KernelIdeal.τ).loc KernelIdeal.main_arg13) := i13
    have k14 : launchContents m' c (Proc.devRef .tc ReferenceIdeal.main_arg14) = m ((c.tc : Thread KernelIdeal.nD KernelIdeal.τ).loc KernelIdeal.main_arg14) := i14
    have k15 : launchContents m' c (Proc.devRef .tc ReferenceIdeal.main_arg15) = m ((c.tc : Thread KernelIdeal.nD KernelIdeal.τ).loc KernelIdeal.main_arg15) := i15
    have k16 : launchContents m' c (Proc.devRef .tc ReferenceIdeal.main_arg16) = m ((c.tc : Thread KernelIdeal.nD KernelIdeal.τ).loc KernelIdeal.main_arg16) := i16
    have k17 : launchContents m' c (Proc.devRef .tc ReferenceIdeal.main_arg17) = m ((c.tc : Thread KernelIdeal.nD KernelIdeal.τ).loc KernelIdeal.main_arg17) := i17
    obtain ⟨f0, f1, f2⟩ := ReferenceIdeal.Ref.results (launchContents m' c)
    have hE : ReferenceIdeal.Ref.encV (launchContents m' c) = encW m c := by
      unfold ReferenceIdeal.Ref.encV encW
      rw [k0, k1, k2, k3, k4, k5, k6, k7, k8]
    have hB : ReferenceIdeal.Ref.cbV (launchContents m' c) = book m c := by
      unfold ReferenceIdeal.Ref.cbV book
      exact k17
    rw [hE, hB] at f0 f1 f2
    refine ⟨(hr c _).trans (f0.trans ?_), (hr c _).trans f1, (hr c _).trans f2, hk c⟩
    unfold outW
    rw [k9, k10, k11, k12, k13, k14, k15, k16]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Ref.Run
public import proofs.«01_k».proof.Proof.Pre.Facts
public import proofs.«01_k».proof.Proof.Value.Agree
public import Idealize.ShloMosaic.Adequacy
public import Idealize.ShloMosaic.Init

@[expose] public section

noncomputable section

namespace Cert.Proof

open Idealize.ShloMosaic Idealize.SL.Sem Cert.Kernel

/-- The frames of the kernel, of its idealisation and of the reference; the idealisation rewrites nothing; and the
    kernel's three results are the reference's wherever the encoder's arguments and the codes hold no infinity. -/
theorem claim : Cert.Claim := ⟨Cert.Kernel.Gen.facts, Cert.KernelIdeal.Gen.facts, Cert.ReferenceIdeal.Gen.facts, Cert.Pre_finite.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Ref.frame m ρ, fun m ρ _ => Cert.ReferenceIdeal.Ref.frame m ρ, trivial, agree⟩

end Cert.Proof

end
